-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2000x4 : Shape := ⟨3, ![3, 2000, 4]⟩
abbrev S3x2000 : Shape := ⟨2, ![3, 2000]⟩
abbrev S3x500x4 : Shape := ⟨3, ![3, 500, 4]⟩
abbrev S3x500 : Shape := ⟨2, ![3, 500]⟩
abbrev S3x2000x1 : Shape := ⟨3, ![3, 2000, 1]⟩
abbrev S_ : Shape := ⟨0, ![]⟩
abbrev S1 : Shape := ⟨1, ![1]⟩
abbrev S1x1x1 : Shape := ⟨3, ![1, 1, 1]⟩
abbrev S3x4x500 : Shape := ⟨3, ![3, 4, 500]⟩
abbrev S3x4x512 : Shape := ⟨3, ![3, 4, 512]⟩
abbrev S3x512 : Shape := ⟨2, ![3, 512]⟩
abbrev S3x1x512 : Shape := ⟨3, ![3, 1, 512]⟩
abbrev S10 : Shape := ⟨1, ![10]⟩
abbrev S16 : Shape := ⟨1, ![16]⟩
abbrev S1x16x1 : Shape := ⟨3, ![1, 16, 1]⟩
abbrev S100 : Shape := ⟨1, ![100]⟩
abbrev S101 : Shape := ⟨1, ![101]⟩
abbrev S128 : Shape := ⟨1, ![128]⟩
abbrev S1x1x128 : Shape := ⟨3, ![1, 1, 128]⟩
abbrev S3x128 : Shape := ⟨2, ![3, 128]⟩
abbrev S3x1 : Shape := ⟨2, ![3, 1]⟩
abbrev S3 : Shape := ⟨1, ![3]⟩
abbrev S3x200x4 : Shape := ⟨3, ![3, 200, 4]⟩
abbrev S3x200x1 : Shape := ⟨3, ![3, 200, 1]⟩
abbrev S200x8x512 : Shape := ⟨3, ![200, 8, 512]⟩
abbrev S3x16x512 : Shape := ⟨3, ![3, 16, 512]⟩
abbrev S3x16x1 : Shape := ⟨3, ![3, 16, 1]⟩
abbrev S3x16x128 : Shape := ⟨3, ![3, 16, 128]⟩
abbrev S1x200x1 : Shape := ⟨3, ![1, 200, 1]⟩
abbrev S200x1 : Shape := ⟨2, ![200, 1]⟩
abbrev S1x1x512 : Shape := ⟨3, ![1, 1, 512]⟩
abbrev S1x512 : Shape := ⟨2, ![1, 512]⟩
abbrev S200x512 : Shape := ⟨2, ![200, 512]⟩
abbrev S200x1x512 : Shape := ⟨3, ![200, 1, 512]⟩
abbrev S1x8x512 : Shape := ⟨3, ![1, 8, 512]⟩
abbrev S8x512 : Shape := ⟨2, ![8, 512]⟩
abbrev S3x16 : Shape := ⟨2, ![3, 16]⟩
abbrev S3x10x101 : Shape := ⟨3, ![3, 10, 101]⟩

abbrev nBuf : Space → Nat
  | .hbm => 104
  | .vmem => 13
  | .smem => 0
  | _ => 0

abbrev bufTy : (tb : Table) → Fin (tcTables nBuf tb) → BufTy
  | .hbm, ⟨0, _⟩ => ⟨S3x2000x4, .f32⟩
  | .hbm, ⟨1, _⟩ => ⟨S3x2000, .f32⟩
  | .hbm, ⟨2, _⟩ => ⟨S3x2000, .i32⟩
  | .hbm, ⟨3, _⟩ => ⟨S3x500x4, .f32⟩
  | .hbm, ⟨4, _⟩ => ⟨S3x500, .i32⟩
  | .hbm, ⟨5, _⟩ => ⟨S3x2000, .f32⟩
  | .hbm, ⟨6, _⟩ => ⟨S3x2000, .i32⟩
  | .hbm, ⟨7, _⟩ => ⟨S3x2000, .f32⟩
  | .hbm, ⟨8, _⟩ => ⟨S3x2000, .i32⟩
  | .hbm, ⟨9, _⟩ => ⟨S3x2000x1, .i32⟩
  | .hbm, ⟨10, _⟩ => ⟨S_, .i32⟩
  | .hbm, ⟨11, _⟩ => ⟨S3x2000x1, .i32⟩
  | .hbm, ⟨12, _⟩ => ⟨S3x2000x1, .i1⟩
  | .hbm, ⟨13, _⟩ => ⟨S_, .i32⟩
  | .hbm, ⟨14, _⟩ => ⟨S3x2000x1, .i32⟩
  | .hbm, ⟨15, _⟩ => ⟨S3x2000x1, .i32⟩
  | .hbm, ⟨16, _⟩ => ⟨S3x2000x1, .i32⟩
  | .hbm, ⟨17, _⟩ => ⟨S1, .i32⟩
  | .hbm, ⟨18, _⟩ => ⟨S_, .i32⟩
  | .hbm, ⟨19, _⟩ => ⟨S3x2000x1, .i32⟩
  | .hbm, ⟨20, _⟩ => ⟨S3x2000x1, .i1⟩
  | .hbm, ⟨21, _⟩ => ⟨S1x1x1, .i32⟩
  | .hbm, ⟨22, _⟩ => ⟨S3x2000x1, .i32⟩
  | .hbm, ⟨23, _⟩ => ⟨S3x2000x1, .i1⟩
  | .hbm, ⟨24, _⟩ => ⟨S3x2000x1, .i1⟩
  | .hbm, ⟨25, _⟩ => ⟨S_, .i1⟩
  | .hbm, ⟨26, _⟩ => ⟨S3x2000, .i1⟩
  | .hbm, ⟨27, _⟩ => ⟨S3x2000x4, .f32⟩
  | .hbm, ⟨28, _⟩ => ⟨S3x2000x4, .i1⟩
  | .hbm, ⟨29, _⟩ => ⟨S_, .f32⟩
  | .hbm, ⟨30, _⟩ => ⟨S3x2000x4, .f32⟩
  | .hbm, ⟨31, _⟩ => ⟨S3x2000x4, .f32⟩
  | .hbm, ⟨32, _⟩ => ⟨S_, .i32⟩
  | .hbm, ⟨33, _⟩ => ⟨S3x2000, .i32⟩
  | .hbm, ⟨34, _⟩ => ⟨S3x2000, .i1⟩
  | .hbm, ⟨35, _⟩ => ⟨S_, .i32⟩
  | .hbm, ⟨36, _⟩ => ⟨S3x2000, .i32⟩
  | .hbm, ⟨37, _⟩ => ⟨S3x2000, .i32⟩
  | .hbm, ⟨38, _⟩ => ⟨S3x2000, .i32⟩
  | .hbm, ⟨39, _⟩ => ⟨S3x2000x1, .i32⟩
  | .hbm, ⟨40, _⟩ => ⟨S1, .i32⟩
  | .hbm, ⟨41, _⟩ => ⟨S_, .i32⟩
  | .hbm, ⟨42, _⟩ => ⟨S3x2000x1, .i32⟩
  | .hbm, ⟨43, _⟩ => ⟨S3x2000x1, .i1⟩
  | .hbm, ⟨44, _⟩ => ⟨S1x1x1, .i32⟩
  | .hbm, ⟨45, _⟩ => ⟨S3x2000x1, .i32⟩
  | .hbm, ⟨46, _⟩ => ⟨S3x2000x1, .i1⟩
  | .hbm, ⟨47, _⟩ => ⟨S3x2000x1, .i1⟩
  | .hbm, ⟨48, _⟩ => ⟨S_, .i1⟩
  | .hbm, ⟨49, _⟩ => ⟨S3x2000, .i1⟩
  | .hbm, ⟨50, _⟩ => ⟨S3x2000, .i32⟩
  | .hbm, ⟨51, _⟩ => ⟨S_, .i32⟩
  | .hbm, ⟨52, _⟩ => ⟨S3x2000, .i32⟩
  | .hbm, ⟨53, _⟩ => ⟨S3x2000, .i32⟩
  | .hbm, ⟨54, _⟩ => ⟨S3x2000x1, .i32⟩
  | .hbm, ⟨55, _⟩ => ⟨S3x4x500, .f32⟩
  | .hbm, ⟨56, _⟩ => ⟨S_, .i32⟩
  | .hbm, ⟨57, _⟩ => ⟨S_, .f32⟩
  | .hbm, ⟨58, _⟩ => ⟨S3x4x512, .f32⟩
  | .hbm, ⟨59, _⟩ => ⟨S_, .i32⟩
  | .hbm, ⟨60, _⟩ => ⟨S_, .i32⟩
  | .hbm, ⟨61, _⟩ => ⟨S3x512, .i32⟩
  | .hbm, ⟨62, _⟩ => ⟨S3x1x512, .i32⟩
  | .hbm, ⟨63, _⟩ => ⟨S10, .f32⟩
  | .hbm, ⟨64, _⟩ => ⟨S_, .f32⟩
  | .hbm, ⟨65, _⟩ => ⟨S10, .f32⟩
  | .hbm, ⟨66, _⟩ => ⟨S10, .f32⟩
  | .hbm, ⟨67, _⟩ => ⟨S_, .f32⟩
  | .hbm, ⟨68, _⟩ => ⟨S10, .f32⟩
  | .hbm, ⟨69, _⟩ => ⟨S10, .f32⟩
  | .hbm, ⟨70, _⟩ => ⟨S_, .f32⟩
  | .hbm, ⟨71, _⟩ => ⟨S_, .f32⟩
  | .hbm, ⟨72, _⟩ => ⟨S16, .f32⟩
  | .hbm, ⟨73, _⟩ => ⟨S1x16x1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S100, .f32⟩
  | .hbm, ⟨82, _⟩ => ⟨S_, .f32⟩
  | .hbm, ⟨83, _⟩ => ⟨S100, .f32⟩
  | .hbm, ⟨84, _⟩ => ⟨S100, .f32⟩
  | .hbm, ⟨85, _⟩ => ⟨S1, .f32⟩
  | .hbm, ⟨86, _⟩ => ⟨S_, .f32⟩
  | .hbm, ⟨87, _⟩ => ⟨S100, .f32⟩
  | .hbm, ⟨88, _⟩ => ⟨S100, .f32⟩
  | .hbm, ⟨89, _⟩ => ⟨S100, .f32⟩
  | .hbm, ⟨90, _⟩ => ⟨S100, .f32⟩
  | .hbm, ⟨91, _⟩ => ⟨S1, .f32⟩
  | .hbm, ⟨92, _⟩ => ⟨S100, .f32⟩
  | .hbm, ⟨93, _⟩ => ⟨S100, .f32⟩
  | .hbm, ⟨94, _⟩ => ⟨S100, .f32⟩
  | .hbm, ⟨95, _⟩ => ⟨S1, .f32⟩
  | .hbm, ⟨96, _⟩ => ⟨S101, .f32⟩
  | .hbm, ⟨97, _⟩ => ⟨S_, .f32⟩
  | .hbm, ⟨98, _⟩ => ⟨S_, .f32⟩
  | .hbm, ⟨99, _⟩ => ⟨S128, .f32⟩
  | .hbm, ⟨100, _⟩ => ⟨S1x1x128, .f32⟩
  | .hbm, ⟨101, _⟩ => ⟨S3x128, .f32⟩
  | .hbm, ⟨102, _⟩ => ⟨S3x1, .f32⟩
  | .hbm, ⟨103, _⟩ => ⟨S3, .f32⟩
  | .local _ .vmem, ⟨0, _⟩ => ⟨S3x200x4, .f32⟩
  | .local _ .vmem, ⟨1, _⟩ => ⟨S3x200x4, .f32⟩
  | .local _ .vmem, ⟨2, _⟩ => ⟨S3x200x1, .i32⟩
  | .local _ .vmem, ⟨3, _⟩ => ⟨S3x200x1, .i32⟩
  | .local _ .vmem, ⟨4, _⟩ => ⟨S3x4x512, .f32⟩
  | .local _ .vmem, ⟨5, _⟩ => ⟨S3x1x512, .i32⟩
  | .local _ .vmem, ⟨6, _⟩ => ⟨S1x16x1, .f32⟩
  | .local _ .vmem, ⟨7, _⟩ => ⟨S1x1x128, .f32⟩
  | .local _ .vmem, ⟨8, _⟩ => ⟨S3x128, .f32⟩
  | .local _ .vmem, ⟨9, _⟩ => ⟨S200x8x512, .f32⟩
  | .local _ .vmem, ⟨10, _⟩ => ⟨S3x16x512, .f32⟩
  | .local _ .vmem, ⟨11, _⟩ => ⟨S3x16x1, .f32⟩
  | .local _ .vmem, ⟨12, _⟩ => ⟨S3x16x128, .f32⟩
  | _, _ => ⟨S3x2000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_v0 : Ref sig .tc := ⟨.hbm, 6, rfl⟩
abbrev main_call0_call0_v1_0 : Ref sig .tc := ⟨.hbm, 7, rfl⟩
abbrev main_call0_v1 : Ref sig .tc := ⟨.hbm, 8, rfl⟩
abbrev main_call0_v2 : Ref sig .tc := ⟨.hbm, 9, rfl⟩
abbrev main_call0_call1_c : Ref sig .tc := ⟨.hbm, 10, rfl⟩
abbrev main_call0_call1_v0 : Ref sig .tc := ⟨.hbm, 11, rfl⟩
abbrev main_call0_call1_v1 : Ref sig .tc := ⟨.hbm, 12, rfl⟩
abbrev main_call0_call1_c_0 : Ref sig .tc := ⟨.hbm, 13, rfl⟩
abbrev main_call0_call1_v2 : Ref sig .tc := ⟨.hbm, 14, rfl⟩
abbrev main_call0_call1_v3 : Ref sig .tc := ⟨.hbm, 15, rfl⟩
abbrev main_call0_call1_v4 : Ref sig .tc := ⟨.hbm, 16, rfl⟩
abbrev main_call0_call1_c_1 : Ref sig .tc := ⟨.hbm, 17, rfl⟩
abbrev main_call0_call1_c_2 : Ref sig .tc := ⟨.hbm, 18, rfl⟩
abbrev main_call0_call1_v5 : Ref sig .tc := ⟨.hbm, 19, rfl⟩
abbrev main_call0_call1_v6 : Ref sig .tc := ⟨.hbm, 20, rfl⟩
abbrev main_call0_call1_v7 : Ref sig .tc := ⟨.hbm, 21, rfl⟩
abbrev main_call0_call1_v8 : Ref sig .tc := ⟨.hbm, 22, rfl⟩
abbrev main_call0_call1_v9 : Ref sig .tc := ⟨.hbm, 23, rfl⟩
abbrev main_call0_call1_v10 : Ref sig .tc := ⟨.hbm, 24, rfl⟩
abbrev main_call0_call1_c_3 : Ref sig .tc := ⟨.hbm, 25, rfl⟩
abbrev main_call0_call1_v11 : Ref sig .tc := ⟨.hbm, 26, rfl⟩
abbrev main_call0_call1_v12 : Ref sig .tc := ⟨.hbm, 27, rfl⟩
abbrev main_call0_call1_v13 : Ref sig .tc := ⟨.hbm, 28, rfl⟩
abbrev main_call0_call1_cst : Ref sig .tc := ⟨.hbm, 29, rfl⟩
abbrev main_call0_call1_v14 : Ref sig .tc := ⟨.hbm, 30, rfl⟩
abbrev main_call0_v3 : Ref sig .tc := ⟨.hbm, 31, rfl⟩
abbrev main_call0_call2_c : Ref sig .tc := ⟨.hbm, 32, rfl⟩
abbrev main_call0_call2_v0 : Ref sig .tc := ⟨.hbm, 33, rfl⟩
abbrev main_call0_call2_v1 : Ref sig .tc := ⟨.hbm, 34, rfl⟩
abbrev main_call0_call2_c_0 : Ref sig .tc := ⟨.hbm, 35, rfl⟩
abbrev main_call0_call2_v2 : Ref sig .tc := ⟨.hbm, 36, rfl⟩
abbrev main_call0_call2_v3 : Ref sig .tc := ⟨.hbm, 37, rfl⟩
abbrev main_call0_call2_v4 : Ref sig .tc := ⟨.hbm, 38, rfl⟩
abbrev main_call0_call2_v5 : Ref sig .tc := ⟨.hbm, 39, rfl⟩
abbrev main_call0_call2_c_1 : Ref sig .tc := ⟨.hbm, 40, rfl⟩
abbrev main_call0_call2_c_2 : Ref sig .tc := ⟨.hbm, 41, rfl⟩
abbrev main_call0_call2_v6 : Ref sig .tc := ⟨.hbm, 42, rfl⟩
abbrev main_call0_call2_v7 : Ref sig .tc := ⟨.hbm, 43, rfl⟩
abbrev main_call0_call2_v8 : Ref sig .tc := ⟨.hbm, 44, rfl⟩
abbrev main_call0_call2_v9 : Ref sig .tc := ⟨.hbm, 45, rfl⟩
abbrev main_call0_call2_v10 : Ref sig .tc := ⟨.hbm, 46, rfl⟩
abbrev main_call0_call2_v11 : Ref sig .tc := ⟨.hbm, 47, rfl⟩
abbrev main_call0_call2_c_3 : Ref sig .tc := ⟨.hbm, 48, rfl⟩
abbrev main_call0_call2_v12 : Ref sig .tc := ⟨.hbm, 49, rfl⟩
abbrev main_call0_call2_v13 : Ref sig .tc := ⟨.hbm, 50, rfl⟩
abbrev main_call0_call2_c_4 : Ref sig .tc := ⟨.hbm, 51, rfl⟩
abbrev main_call0_call2_v14 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_c : Ref sig .tc := ⟨.hbm, 56, rfl⟩
abbrev main_call0_call3_v0 : Ref sig .tc := ⟨.hbm, 57, rfl⟩
abbrev main_call0_v7 : Ref sig .tc := ⟨.hbm, 58, rfl⟩
abbrev main_call0_c_0 : Ref sig .tc := ⟨.hbm, 59, rfl⟩
abbrev main_call0_call4_v0 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_cst : Ref sig .tc := ⟨.hbm, 64, rfl⟩
abbrev main_call0_v11 : Ref sig .tc := ⟨.hbm, 65, rfl⟩
abbrev main_call0_v12 : Ref sig .tc := ⟨.hbm, 66, rfl⟩
abbrev main_call0_cst_1 : Ref sig .tc := ⟨.hbm, 67, rfl⟩
abbrev main_call0_v13 : Ref sig .tc := ⟨.hbm, 68, rfl⟩
abbrev main_call0_v14 : Ref sig .tc := ⟨.hbm, 69, rfl⟩
abbrev main_call0_cst_2 : Ref sig .tc := ⟨.hbm, 70, rfl⟩
abbrev main_call0_call5_v0 : Ref sig .tc := ⟨.hbm, 71, rfl⟩
abbrev main_call0_v15 : Ref sig .tc := ⟨.hbm, 72, rfl⟩
abbrev main_call0_v16 : Ref sig .tc := ⟨.hbm, 73, rfl⟩
abbrev main_call0_cst_3 : Ref sig .tc := ⟨.hbm, 74, rfl⟩
abbrev main_call0_cst_4 : Ref sig .tc := ⟨.hbm, 75, rfl⟩
abbrev main_call0_call6_v0 : Ref sig .tc := ⟨.hbm, 76, rfl⟩
abbrev main_call0_call6_v1 : Ref sig .tc := ⟨.hbm, 77, rfl⟩
abbrev main_call0_call6_v2 : Ref sig .tc := ⟨.hbm, 78, rfl⟩
abbrev main_call0_call6_cst : Ref sig .tc := ⟨.hbm, 79, rfl⟩
abbrev main_call0_call6_v3 : Ref sig .tc := ⟨.hbm, 80, rfl⟩
abbrev main_call0_call6_v4 : Ref sig .tc := ⟨.hbm, 81, rfl⟩
abbrev main_call0_call6_cst_0 : Ref sig .tc := ⟨.hbm, 82, rfl⟩
abbrev main_call0_call6_v5 : Ref sig .tc := ⟨.hbm, 83, rfl⟩
abbrev main_call0_call6_v6 : Ref sig .tc := ⟨.hbm, 84, rfl⟩
abbrev main_call0_call6_v7 : Ref sig .tc := ⟨.hbm, 85, rfl⟩
abbrev main_call0_call6_cst_1 : Ref sig .tc := ⟨.hbm, 86, rfl⟩
abbrev main_call0_call6_v8 : Ref sig .tc := ⟨.hbm, 87, rfl⟩
abbrev main_call0_call6_v9 : Ref sig .tc := ⟨.hbm, 88, rfl⟩
abbrev main_call0_call6_v10 : Ref sig .tc := ⟨.hbm, 89, rfl⟩
abbrev main_call0_call6_v11 : Ref sig .tc := ⟨.hbm, 90, rfl⟩
abbrev main_call0_call6_v12 : Ref sig .tc := ⟨.hbm, 91, rfl⟩
abbrev main_call0_call6_v13 : Ref sig .tc := ⟨.hbm, 92, rfl⟩
abbrev main_call0_call6_v14 : Ref sig .tc := ⟨.hbm, 93, rfl⟩
abbrev main_call0_call6_v15 : Ref sig .tc := ⟨.hbm, 94, rfl⟩
abbrev main_call0_call6_v16 : Ref sig .tc := ⟨.hbm, 95, rfl⟩
abbrev main_call0_v17 : Ref sig .tc := ⟨.hbm, 96, rfl⟩
abbrev main_call0_cst_5 : Ref sig .tc := ⟨.hbm, 97, rfl⟩
abbrev main_call0_call7_v0 : Ref sig .tc := ⟨.hbm, 98, rfl⟩
abbrev main_call0_v18 : Ref sig .tc := ⟨.hbm, 99, rfl⟩
abbrev main_call0_v19 : Ref sig .tc := ⟨.hbm, 100, rfl⟩
abbrev main_call0_v20 : Ref sig .tc := ⟨.hbm, 101, rfl⟩
abbrev main_call0_v21 : Ref sig .tc := ⟨.hbm, 102, rfl⟩
abbrev main_v0 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32_113 : BitVec 32 := 0#32
  let c200_i32 : BitVec 32 := 200#32
  let v191 : BitVec 32 := Scalar.addi c0_i32_113 c200_i32
  let c1_i32 : BitVec 32 := 1#32
  ⟨c0_i32_113, v191, c1_i32⟩
def k0_off1 (k0_t1 : Fin k0_t1_loop.trips) : Fin 3 → Nat :=
  let c0_i32_113 : BitVec 32 := 0#32
  let c1_i32 : BitVec 32 := 1#32
  let arg12 : BitVec 32 := Scf.iv c0_i32_113 c1_i32 k0_t1
  let v195 : Index := Scalar.indexCast arg12
  let c0_116 : Index := 0#32
  let c0_117 : Index := 0#32
  ![v195.toNat, 0, 0]
def k0_cond2 (i : grid0.Coords) : BitVec 1 :=
  let arg0 : BitVec 32 := BitVec.ofNat 32 (i 0).val
  let c9_i32 : BitVec 32 := 9#32
  let v192 : BitVec 1 := Scalar.cmpi .eq arg0 c9_i32
  let v193 : BitVec 32 := Scalar.extui v192
  let c0_i32_115 : BitVec 32 := 0#32
  let v194 : BitVec 1 := Scalar.cmpi .ne v193 c0_i32_115
  v194

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x2000x4 : Shape := ⟨3, ![3, 2000, 4]⟩
abbrev S3x2000 : Shape := ⟨2, ![3, 2000]⟩
abbrev S3x500x4 : Shape := ⟨3, ![3, 500, 4]⟩
abbrev S3x500 : Shape := ⟨2, ![3, 500]⟩
abbrev S10 : Shape := ⟨1, ![10]⟩
abbrev S_ : Shape := ⟨0, ![]⟩
abbrev S100 : Shape := ⟨1, ![100]⟩
abbrev S1 : Shape := ⟨1, ![1]⟩
abbrev S101 : Shape := ⟨1, ![101]⟩
abbrev S2000 : Shape := ⟨1, ![2000]⟩
abbrev S3x2000x1 : Shape := ⟨3, ![3, 2000, 1]⟩
abbrev S3x500x1 : Shape := ⟨3, ![3, 500, 1]⟩
abbrev S3x2000x2 : Shape := ⟨3, ![3, 2000, 2]⟩
abbrev S3x2000x1x2 : Shape := ⟨4, ![3, 2000, 1, 2]⟩
abbrev S3x500x2 : Shape := ⟨3, ![3, 500, 2]⟩
abbrev S3x1x500x2 : Shape := ⟨4, ![3, 1, 500, 2]⟩
abbrev S3x2000x500x2 : Shape := ⟨4, ![3, 2000, 500, 2]⟩
abbrev S3x2000x500x1 : Shape := ⟨4, ![3, 2000, 500, 1]⟩
abbrev S3x2000x500 : Shape := ⟨3, ![3, 2000, 500]⟩
abbrev S3x1x500 : Shape := ⟨3, ![3, 1, 500]⟩
abbrev S10x500 : Shape := ⟨2, ![10, 500]⟩
abbrev S3x10x500 : Shape := ⟨3, ![3, 10, 500]⟩
abbrev S2000x3x500 : Shape := ⟨3, ![2000, 3, 500]⟩
abbrev S2000x3x10 : Shape := ⟨3, ![2000, 3, 10]⟩
abbrev S1x3x500 : Shape := ⟨3, ![1, 3, 500]⟩
abbrev S10x1 : Shape := ⟨2, ![10, 1]⟩
abbrev S1x10x1 : Shape := ⟨3, ![1, 10, 1]⟩
abbrev S3x10 : Shape := ⟨2, ![3, 10]⟩
abbrev S3x10x1 : Shape := ⟨3, ![3, 10, 1]⟩
abbrev S1x3x10 : Shape := ⟨3, ![1, 3, 10]⟩
abbrev S3x10x2000 : Shape := ⟨3, ![3, 10, 2000]⟩
abbrev S3x10x1x2000 : Shape := ⟨4, ![3, 10, 1, 2000]⟩
abbrev S101x1 : Shape := ⟨2, ![101, 1]⟩
abbrev S1x101x1 : Shape := ⟨3, ![1, 101, 1]⟩
abbrev S1x1x101x1 : Shape := ⟨4, ![1, 1, 101, 1]⟩
abbrev S3x10x101x2000 : Shape := ⟨4, ![3, 10, 101, 2000]⟩
abbrev S3x10x101 : Shape := ⟨3, ![3, 10, 101]⟩
abbrev S3x10x101x1 : Shape := ⟨4, ![3, 10, 101, 1]⟩
abbrev S10x101 : Shape := ⟨2, ![10, 101]⟩
abbrev S3 : Shape := ⟨1, ![3]⟩

abbrev nBuf : Space → Nat
  | .hbm => 251
  | .vmem => 0
  | .smem => 0
  | _ => 0

abbrev hbmTy0_0 (i : Nat) : BufTy := match i % 128 with
  | 0 => ⟨S3x2000x4, .f32⟩
  | 1 => ⟨S3x2000, .f32⟩
  | 2 => ⟨S3x2000, .i32⟩
  | 3 => ⟨S3x500x4, .f32⟩
  | 4 => ⟨S3x500, .i32⟩
  | 5 => ⟨S10, .f32⟩
  | 6 => ⟨S_, .f32⟩
  | 7 => ⟨S10, .f32⟩
  | 8 => ⟨S10, .f32⟩
  | 9 => ⟨S_, .f32⟩
  | 10 => ⟨S10, .f32⟩
  | 11 => ⟨S10, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S100, .f32⟩
  | 20 => ⟨S_, .f32⟩
  | 21 => ⟨S100, .f32⟩
  | 22 => ⟨S100, .f32⟩
  | 23 => ⟨S1, .f32⟩
  | 24 => ⟨S_, .f32⟩
  | 25 => ⟨S100, .f32⟩
  | 26 => ⟨S100, .f32⟩
  | 27 => ⟨S100, .f32⟩
  | 28 => ⟨S100, .f32⟩
  | 29 => ⟨S1, .f32⟩
  | 30 => ⟨S100, .f32⟩
  | 31 => ⟨S100, .f32⟩
  | 32 => ⟨S100, .f32⟩
  | 33 => ⟨S1, .f32⟩
  | 34 => ⟨S101, .f32⟩
  | 35 => ⟨S3x2000, .f32⟩
  | 36 => ⟨S2000, .i32⟩
  | 37 => ⟨S3x2000, .i32⟩
  | 38 => ⟨S3x2000, .f32⟩
  | 39 => ⟨S3x2000, .i32⟩
  | 40 => ⟨S3x2000x1, .f32⟩
  | 41 => ⟨S3x2000, .f32⟩
  | 42 => ⟨S3x2000x1, .f32⟩
  | 43 => ⟨S3x2000, .f32⟩
  | 44 => ⟨S3x2000, .f32⟩
  | 45 => ⟨S3x2000x1, .f32⟩
  | 46 => ⟨S3x2000, .f32⟩
  | 47 => ⟨S3x2000x1, .f32⟩
  | 48 => ⟨S3x2000, .f32⟩
  | 49 => ⟨S3x2000, .f32⟩
  | 50 => ⟨S3x2000, .f32⟩
  | 51 => ⟨S3x500x1, .f32⟩
  | 52 => ⟨S3x500, .f32⟩
  | 53 => ⟨S3x500x1, .f32⟩
  | 54 => ⟨S3x500, .f32⟩
  | 55 => ⟨S3x500, .f32⟩
  | 56 => ⟨S3x500x1, .f32⟩
  | 57 => ⟨S3x500, .f32⟩
  | 58 => ⟨S3x500x1, .f32⟩
  | 59 => ⟨S3x500, .f32⟩
  | 60 => ⟨S3x500, .f32⟩
  | 61 => ⟨S3x500, .f32⟩
  | 62 => ⟨S3x2000x2, .f32⟩
  | 63 => ⟨S3x2000x1x2, .f32⟩
  | 64 => ⟨S3x500x2, .f32⟩
  | 65 => ⟨S3x1x500x2, .f32⟩
  | 66 => ⟨S3x2000x500x2, .f32⟩
  | 67 => ⟨S3x2000x500x2, .f32⟩
  | 68 => ⟨S3x2000x500x2, .f32⟩
  | 69 => ⟨S3x2000x2, .f32⟩
  | 70 => ⟨S3x2000x1x2, .f32⟩
  | 71 => ⟨S3x500x2, .f32⟩
  | 72 => ⟨S3x1x500x2, .f32⟩
  | 73 => ⟨S3x2000x500x2, .f32⟩
  | 74 => ⟨S3x2000x500x2, .f32⟩
  | 75 => ⟨S3x2000x500x2, .f32⟩
  | 76 => ⟨S3x2000x500x2, .f32⟩
  | 77 => ⟨S_, .f32⟩
  | 78 => ⟨S_, .f32⟩
  | 79 => ⟨S3x2000x500x2, .f32⟩
  | 80 => ⟨S3x2000x500x2, .f32⟩
  | 81 => ⟨S3x2000x500x1, .f32⟩
  | 82 => ⟨S3x2000x500, .f32⟩
  | 83 => ⟨S3x2000x500x1, .f32⟩
  | 84 => ⟨S3x2000x500, .f32⟩
  | 85 => ⟨S3x2000x500, .f32⟩
  | 86 => ⟨S3x2000x1, .f32⟩
  | 87 => ⟨S3x1x500, .f32⟩
  | 88 => ⟨S3x2000x500, .f32⟩
  | 89 => ⟨S3x2000x500, .f32⟩
  | 90 => ⟨S3x2000x500, .f32⟩
  | 91 => ⟨S3x2000x500, .f32⟩
  | 92 => ⟨S_, .f32⟩
  | 93 => ⟨S3x2000x500, .f32⟩
  | 94 => ⟨S3x2000x500, .f32⟩
  | 95 => ⟨S3x2000x500, .f32⟩
  | 96 => ⟨S_, .i32⟩
  | 97 => ⟨S3x2000, .i32⟩
  | 98 => ⟨S3x2000, .i1⟩
  | 99 => ⟨S_, .i32⟩
  | 100 => ⟨S3x2000, .i32⟩
  | 101 => ⟨S3x2000, .i32⟩
  | 102 => ⟨S3x2000, .i32⟩
  | 103 => ⟨S3x2000x1, .i32⟩
  | 104 => ⟨S3x2000x500, .f32⟩
  | 105 => ⟨S_, .i32⟩
  | 106 => ⟨S3x2000, .i32⟩
  | 107 => ⟨S3x2000, .i1⟩
  | 108 => ⟨S_, .i32⟩
  | 109 => ⟨S3x2000, .i32⟩
  | 110 => ⟨S3x2000, .i32⟩
  | 111 => ⟨S3x2000, .i32⟩
  | 112 => ⟨S3x2000x1, .i32⟩
  | 113 => ⟨S3x2000, .i32⟩
  | 114 => ⟨S3x2000x1, .i32⟩
  | 115 => ⟨S3x1x500, .i32⟩
  | 116 => ⟨S3x2000x500, .i32⟩
  | 117 => ⟨S3x2000x500, .i32⟩
  | 118 => ⟨S3x2000x500, .i1⟩
  | 119 => ⟨S_, .i1⟩
  | 120 => ⟨S10x500, .i1⟩
  | 121 => ⟨S3x10x500, .i1⟩
  | 122 => ⟨S2000x3x500, .f32⟩
  | 123 => ⟨S2000x3x500, .i1⟩
  | 124 => ⟨S_, .f32⟩
  | 125 => ⟨S2000x3x10, .f32⟩
  | 126 => ⟨S_, .i32⟩
  | 127 => ⟨S2000x3x500, .f32⟩
  | _ => ⟨S3x2000x4, .f32⟩

abbrev hbmTy0_1 (i : Nat) : BufTy := match i % 128 with
  | 0 => ⟨S2000x3x500, .i1⟩
  | 1 => ⟨S10, .f32⟩
  | 2 => ⟨S_, .i32⟩
  | 3 => ⟨S3x10x500, .i1⟩
  | 4 => ⟨S2000x3x10, .f32⟩
  | 5 => ⟨S_, .i32⟩
  | 6 => ⟨S_, .i1⟩
  | 7 => ⟨S_, .i32⟩
  | 8 => ⟨S_, .i32⟩
  | 9 => ⟨S1x3x500, .f32⟩
  | 10 => ⟨S3x500, .f32⟩
  | 11 => ⟨S_, .i32⟩
  | 12 => ⟨S_, .i32⟩
  | 13 => ⟨S1x3x500, .i1⟩
  | 14 => ⟨S3x500, .i1⟩
  | 15 => ⟨S3x1x500, .f32⟩
  | 16 => ⟨S10x1, .f32⟩
  | 17 => ⟨S1x10x1, .f32⟩
  | 18 => ⟨S3x10x500, .f32⟩
  | 19 => ⟨S3x10x500, .f32⟩
  | 20 => ⟨S3x10x500, .i1⟩
  | 21 => ⟨S3x1x500, .i1⟩
  | 22 => ⟨S3x10x500, .i1⟩
  | 23 => ⟨S3x10x500, .i1⟩
  | 24 => ⟨S3x10x500, .i1⟩
  | 25 => ⟨S3x10x500, .i1⟩
  | 26 => ⟨S3x1x500, .f32⟩
  | 27 => ⟨S_, .f32⟩
  | 28 => ⟨S_, .f32⟩
  | 29 => ⟨S3x10x500, .f32⟩
  | 30 => ⟨S10x500, .f32⟩
  | 31 => ⟨S3x10x500, .f32⟩
  | 32 => ⟨S3x10x500, .f32⟩
  | 33 => ⟨S_, .i1⟩
  | 34 => ⟨S3x10, .i1⟩
  | 35 => ⟨S_, .f32⟩
  | 36 => ⟨S3x10, .f32⟩
  | 37 => ⟨S3x10x1, .f32⟩
  | 38 => ⟨S3x10x500, .f32⟩
  | 39 => ⟨S3x10x500, .i1⟩
  | 40 => ⟨S3x10x500, .i32⟩
  | 41 => ⟨S_, .i32⟩
  | 42 => ⟨S_, .i32⟩
  | 43 => ⟨S3x10x500, .i32⟩
  | 44 => ⟨S_, .i32⟩
  | 45 => ⟨S3x10x500, .i32⟩
  | 46 => ⟨S3x10x500, .i1⟩
  | 47 => ⟨S3x10x500, .i1⟩
  | 48 => ⟨S3x10x1, .i1⟩
  | 49 => ⟨S3x10x500, .i1⟩
  | 50 => ⟨S3x10x500, .i1⟩
  | 51 => ⟨S3x10x500, .i1⟩
  | 52 => ⟨S3x10, .f32⟩
  | 53 => ⟨S1x3x10, .f32⟩
  | 54 => ⟨S_, .i32⟩
  | 55 => ⟨S_, .i32⟩
  | 56 => ⟨S2000x3x10, .f32⟩
  | 57 => ⟨S_, .i32⟩
  | 58 => ⟨S_, .i32⟩
  | 59 => ⟨S3x10x2000, .f32⟩
  | 60 => ⟨S_, .f32⟩
  | 61 => ⟨S_, .f32⟩
  | 62 => ⟨S3x10x2000, .f32⟩
  | 63 => ⟨S_, .f32⟩
  | 64 => ⟨S3x10x2000, .f32⟩
  | 65 => ⟨S3x10x2000, .f32⟩
  | 66 => ⟨S_, .f32⟩
  | 67 => ⟨S_, .f32⟩
  | 68 => ⟨S3x10x2000, .f32⟩
  | 69 => ⟨S_, .f32⟩
  | 70 => ⟨S3x10x2000, .f32⟩
  | 71 => ⟨S3x10x2000, .f32⟩
  | 72 => ⟨S3x10x2000, .f32⟩
  | 73 => ⟨S_, .f32⟩
  | 74 => ⟨S3x10x2000, .f32⟩
  | 75 => ⟨S3x10x2000, .f32⟩
  | 76 => ⟨S3x10x2000, .f32⟩
  | 77 => ⟨S3x10x2000, .f32⟩
  | 78 => ⟨S_, .f32⟩
  | 79 => ⟨S_, .f32⟩
  | 80 => ⟨S3x10x2000, .f32⟩
  | 81 => ⟨S3x10x2000, .f32⟩
  | 82 => ⟨S3x10x1x2000, .f32⟩
  | 83 => ⟨S101x1, .f32⟩
  | 84 => ⟨S1x101x1, .f32⟩
  | 85 => ⟨S1x1x101x1, .f32⟩
  | 86 => ⟨S3x10x101x2000, .f32⟩
  | 87 => ⟨S3x10x101x2000, .f32⟩
  | 88 => ⟨S3x10x101x2000, .i1⟩
  | 89 => ⟨S3x10x101x2000, .i32⟩
  | 90 => ⟨S_, .i32⟩
  | 91 => ⟨S3x10x101, .i32⟩
  | 92 => ⟨S_, .i32⟩
  | 93 => ⟨S3x10x101, .i32⟩
  | 94 => ⟨S3x10x101, .i1⟩
  | 95 => ⟨S_, .i32⟩
  | 96 => ⟨S_, .i32⟩
  | 97 => ⟨S_, .i32⟩
  | 98 => ⟨S3x10x101, .i32⟩
  | 99 => ⟨S3x10x101, .i32⟩
  | 100 => ⟨S_, .i32⟩
  | 101 => ⟨S3x10x101, .i32⟩
  | 102 => ⟨S3x10x101, .i32⟩
  | 103 => ⟨S_, .i32⟩
  | 104 => ⟨S3x10x101, .i32⟩
  | 105 => ⟨S3x10x101, .i1⟩
  | 106 => ⟨S_, .i32⟩
  | 107 => ⟨S3x10x101, .i32⟩
  | 108 => ⟨S3x10x101, .i32⟩
  | 109 => ⟨S3x10x101, .i32⟩
  | 110 => ⟨S3x10x101x1, .i32⟩
  | 111 => ⟨S3x10x101, .f32⟩
  | 112 => ⟨S_, .f32⟩
  | 113 => ⟨S_, .f32⟩
  | 114 => ⟨S101, .f32⟩
  | 115 => ⟨S10x101, .f32⟩
  | 116 => ⟨S3x10x101, .f32⟩
  | 117 => ⟨S3x10x101, .f32⟩
  | 118 => ⟨S_, .f32⟩
  | 119 => ⟨S3, .f32⟩
  | 120 => ⟨S_, .f32⟩
  | 121 => ⟨S3, .f32⟩
  | 122 => ⟨S3, .f32⟩
  | _ => ⟨S3x2000x4, .f32⟩

abbrev hbmTy (i : Nat) : BufTy := match i / 128 with
  | 0 => hbmTy0_0 i
  | 1 => hbmTy0_1 i
  | _ => ⟨S3x2000x4, .f32⟩

abbrev bufTy : (tb : Table) → Fin (tcTables nBuf tb) → BufTy
  | .hbm, ⟨i, _⟩ => hbmTy i
  | _, _ => ⟨S3x2000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v5 : Ref sig .tc := ⟨.hbm, 34, rfl⟩
abbrev main_v6 : Ref sig .tc := ⟨.hbm, 35, rfl⟩
abbrev main_call1_v0 : Ref sig .tc := ⟨.hbm, 36, rfl⟩
abbrev main_call1_v1 : Ref sig .tc := ⟨.hbm, 37, rfl⟩
abbrev main_call1_v2_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_3 : Ref sig .tc := ⟨.hbm, 77, rfl⟩
abbrev main_call2_v0 : Ref sig .tc := ⟨.hbm, 78, rfl⟩
abbrev main_call2_v1 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_4 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c : Ref sig .tc := ⟨.hbm, 96, rfl⟩
abbrev main_v60 : Ref sig .tc := ⟨.hbm, 97, rfl⟩
abbrev main_v61 : Ref sig .tc := ⟨.hbm, 98, rfl⟩
abbrev main_c_5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_6 : Ref sig .tc := ⟨.hbm, 105, rfl⟩
abbrev main_v67 : Ref sig .tc := ⟨.hbm, 106, rfl⟩
abbrev main_v68 : Ref sig .tc := ⟨.hbm, 107, rfl⟩
abbrev main_c_7 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_8 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_9 : Ref sig .tc := ⟨.hbm, 124, rfl⟩
abbrev main_v83 : Ref sig .tc := ⟨.hbm, 125, rfl⟩
abbrev main_c_10 : Ref sig .tc := ⟨.hbm, 126, rfl⟩
abbrev main_v84_0 : Ref sig .tc := ⟨.hbm, 127, rfl⟩
abbrev main_v84_1 : Ref sig .tc := ⟨.hbm, 128, rfl⟩
abbrev main_v84_2 : Ref sig .tc := ⟨.hbm, 129, rfl⟩
abbrev main_v84_3 : Ref sig .tc := ⟨.hbm, 130, rfl⟩
abbrev main_v84_4 : Ref sig .tc := ⟨.hbm, 131, rfl⟩
abbrev main_v84_5 : Ref sig .tc := ⟨.hbm, 132, rfl⟩
abbrev main_while0c_c_28 : Ref sig .tc := ⟨.hbm, 133, rfl⟩
abbrev main_while0c_v122 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_v0 : Ref sig .tc := ⟨.hbm, 137, rfl⟩
abbrev main_while0b_v122 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_v0 : Ref sig .tc := ⟨.hbm, 141, rfl⟩
abbrev main_while0b_v123 : Ref sig .tc := ⟨.hbm, 142, rfl⟩
abbrev main_while0b_v124 : Ref sig .tc := ⟨.hbm, 143, rfl⟩
abbrev main_while0b_v125 : Ref sig .tc := ⟨.hbm, 144, rfl⟩
abbrev main_while0b_v126 : Ref sig .tc := ⟨.hbm, 145, rfl⟩
abbrev main_while0b_v127 : Ref sig .tc := ⟨.hbm, 146, rfl⟩
abbrev main_while0b_v128 : Ref sig .tc := ⟨.hbm, 147, rfl⟩
abbrev main_while0b_v129 : Ref sig .tc := ⟨.hbm, 148, rfl⟩
abbrev main_while0b_v130 : Ref sig .tc := ⟨.hbm, 149, rfl⟩
abbrev main_while0b_v131 : Ref sig .tc := ⟨.hbm, 150, rfl⟩
abbrev main_while0b_v132 : Ref sig .tc := ⟨.hbm, 151, rfl⟩
abbrev main_while0b_v133 : Ref sig .tc := ⟨.hbm, 152, rfl⟩
abbrev main_while0b_v134 : Ref sig .tc := ⟨.hbm, 153, rfl⟩
abbrev main_while0b_v135 : Ref sig .tc := ⟨.hbm, 154, rfl⟩
abbrev main_while0b_cst_28 : Ref sig .tc := ⟨.hbm, 155, rfl⟩
abbrev main_while0b_call5_v0 : Ref sig .tc := ⟨.hbm, 156, rfl⟩
abbrev main_while0b_call5_v1 : Ref sig .tc := ⟨.hbm, 157, rfl⟩
abbrev main_while0b_call5_v2 : Ref sig .tc := ⟨.hbm, 158, rfl⟩
abbrev main_while0b_call5_v3 : Ref sig .tc := ⟨.hbm, 159, rfl⟩
abbrev main_while0b_v136 : Ref sig .tc := ⟨.hbm, 160, rfl⟩
abbrev main_while0b_c_29 : Ref sig .tc := ⟨.hbm, 161, rfl⟩
abbrev main_while0b_v137 : Ref sig .tc := ⟨.hbm, 162, rfl⟩
abbrev main_while0b_cst_30 : Ref sig .tc := ⟨.hbm, 163, rfl⟩
abbrev main_while0b_v138 : Ref sig .tc := ⟨.hbm, 164, rfl⟩
abbrev main_while0b_v139 : Ref sig .tc := ⟨.hbm, 165, rfl⟩
abbrev main_while0b_v140 : Ref sig .tc := ⟨.hbm, 166, rfl⟩
abbrev main_while0b_v141 : Ref sig .tc := ⟨.hbm, 167, rfl⟩
abbrev main_while0b_v142 : Ref sig .tc := ⟨.hbm, 168, rfl⟩
abbrev main_while0b_call6_call0_c : Ref sig .tc := ⟨.hbm, 169, rfl⟩
abbrev main_while0b_call6_call0_v0 : Ref sig .tc := ⟨.hbm, 170, rfl⟩
abbrev main_while0b_v143 : Ref sig .tc := ⟨.hbm, 171, rfl⟩
abbrev main_while0b_c_31 : Ref sig .tc := ⟨.hbm, 172, rfl⟩
abbrev main_while0b_v144 : Ref sig .tc := ⟨.hbm, 173, rfl⟩
abbrev main_while0b_v145 : Ref sig .tc := ⟨.hbm, 174, rfl⟩
abbrev main_while0b_v146 : Ref sig .tc := ⟨.hbm, 175, rfl⟩
abbrev main_while0b_v147 : Ref sig .tc := ⟨.hbm, 176, rfl⟩
abbrev main_while0b_v148 : Ref sig .tc := ⟨.hbm, 177, rfl⟩
abbrev main_while0b_v149 : Ref sig .tc := ⟨.hbm, 178, rfl⟩
abbrev main_while0b_v150 : Ref sig .tc := ⟨.hbm, 179, rfl⟩
abbrev main_while0b_v151 : Ref sig .tc := ⟨.hbm, 180, rfl⟩
abbrev main_while0b_call7_v0 : Ref sig .tc := ⟨.hbm, 181, rfl⟩
abbrev main_while0b_call7_c : Ref sig .tc := ⟨.hbm, 182, rfl⟩
abbrev main_while0b_call7_c_0 : Ref sig .tc := ⟨.hbm, 183, rfl⟩
abbrev main_while0b_v152 : Ref sig .tc := ⟨.hbm, 184, rfl⟩
abbrev main_while0b_c_32 : Ref sig .tc := ⟨.hbm, 185, rfl⟩
abbrev main_while0b_v153 : Ref sig .tc := ⟨.hbm, 186, rfl⟩
abbrev main_v85 : Ref sig .tc := ⟨.hbm, 187, rfl⟩
abbrev main_call8_call0_cst : Ref sig .tc := ⟨.hbm, 188, rfl⟩
abbrev main_call8_call0_v0 : Ref sig .tc := ⟨.hbm, 189, rfl⟩
abbrev main_v86 : Ref sig .tc := ⟨.hbm, 190, rfl⟩
abbrev main_cst_11 : Ref sig .tc := ⟨.hbm, 191, rfl⟩
abbrev main_v87 : Ref sig .tc := ⟨.hbm, 192, rfl⟩
abbrev main_v88 : Ref sig .tc := ⟨.hbm, 193, rfl⟩
abbrev main_call9_call0_cst : Ref sig .tc := ⟨.hbm, 194, rfl⟩
abbrev main_call9_call0_v0 : Ref sig .tc := ⟨.hbm, 195, rfl⟩
abbrev main_v89 : Ref sig .tc := ⟨.hbm, 196, rfl⟩
abbrev main_cst_12 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_cst_13 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_call11_cst : Ref sig .tc := ⟨.hbm, 206, rfl⟩
abbrev main_call11_v0 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_c_14 : Ref sig .tc := ⟨.hbm, 218, rfl⟩
abbrev main_v107 : Ref sig .tc := ⟨.hbm, 219, rfl⟩
abbrev main_c_15 : Ref sig .tc := ⟨.hbm, 220, rfl⟩
abbrev main_v108 : Ref sig .tc := ⟨.hbm, 221, rfl⟩
abbrev main_v109 : Ref sig .tc := ⟨.hbm, 222, rfl⟩
abbrev main_c_16 : Ref sig .tc := ⟨.hbm, 223, rfl⟩
abbrev main_c_17 : Ref sig .tc := ⟨.hbm, 224, rfl⟩
abbrev main_call13_v0 : Ref sig .tc := ⟨.hbm, 225, rfl⟩
abbrev main_call13_v1 : Ref sig .tc := ⟨.hbm, 226, rfl⟩
abbrev main_call13_v2 : Ref sig .tc := ⟨.hbm, 227, rfl⟩
abbrev main_call13_v3 : Ref sig .tc := ⟨.hbm, 228, rfl⟩
abbrev main_call13_v4 : Ref sig .tc := ⟨.hbm, 229, rfl⟩
abbrev main_v110 : Ref sig .tc := ⟨.hbm, 230, rfl⟩
abbrev main_c_18 : Ref sig .tc := ⟨.hbm, 231, rfl⟩
abbrev main_v111 : Ref sig .tc := ⟨.hbm, 232, rfl⟩
abbrev main_v112 : Ref sig .tc := ⟨.hbm, 233, rfl⟩
abbrev main_c_19 : Ref sig .tc := ⟨.hbm, 234, rfl⟩
abbrev main_v113 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_cst_20 : Ref sig .tc := ⟨.hbm, 240, rfl⟩
abbrev main_call14_v0 : Ref sig .tc := ⟨.hbm, 241, rfl⟩
abbrev main_call14_v1 : Ref sig .tc := ⟨.hbm, 242, rfl⟩
abbrev main_call14_v2 : Ref sig .tc := ⟨.hbm, 243, rfl⟩
abbrev main_call14_v3 : Ref sig .tc := ⟨.hbm, 244, rfl⟩
abbrev main_v118 : Ref sig .tc := ⟨.hbm, 245, rfl⟩
abbrev main_cst_21 : Ref sig .tc := ⟨.hbm, 246, rfl⟩
abbrev main_v119 : Ref sig .tc := ⟨.hbm, 247, rfl⟩
abbrev main_cst_22 : Ref sig .tc := ⟨.hbm, 248, rfl⟩
abbrev main_v120 : Ref sig .tc := ⟨.hbm, 249, rfl⟩
abbrev main_v121 : Ref sig .tc := ⟨.hbm, 250, rfl⟩

abbrev nD : Nat := 1
abbrev τ : Topo := Topo.v7x

variable {F : FTy → Type} [FloatOps F]

abbrev main_while0_count : Scf.Loop 32 := ⟨0#32, 2000#32, 1#32⟩
-- ==== Proof.KernelIdeal.Loop.lean ====
/- The matching loop of the kernel's body: what one trip leaves in the three scratch buffers it rewrites, as vectors,
   and what the loop's 200 trips leave. -/
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.Value
public import Idealize.ShloMosaic.Lib.Pointwise

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch buffers: the rows of overlaps, the matches, the counts of matches and the envelope. -/
abbrev scr0 : Memref sig .tc .vmem S200x8x512 .f32 := Memref.whole cc0_scratch0
abbrev scr1 : Memref sig .tc .vmem S3x16x512 .f32 := Memref.whole cc0_scratch1
abbrev scr2 : Memref sig .tc .vmem S3x16x1 .f32 := Memref.whole cc0_scratch2
abbrev scr3 : Memref sig .tc .vmem S3x16x128 .f32 := Memref.whole cc0_scratch3

/-- The contents of a memref's buffer on core `c`, and that buffer held whole at them. -/
abbrev Bf (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : Bf (F := F) c M) : sProp 𝕄 :=
  M.view.loc (c : Thread nD τ) ↦[M.view.set]{fullShare} f

/-- The matches, the counts of matches and the envelope, as vectors. -/
abbrev St (F : FTy → Type) : Type := Vec F S3x16x512 .f32 × Vec F S3x16x1 .f32 × Vec F S3x16x128 .f32

/-- The eight sublanes of row `k` of the overlaps. -/
def rowAt (f : Vec F S200x8x512 .f32) (k : Fin k0_t1_loop.trips) : Vec F S1x8x512 .f32 :=
  scr0.view.readAt (Elt F) (Rect.unit (s := S200x8x512) (k0_off1 k) S1x8x512.size (k0_off1_inb k)).toLoadRect f

/-- One trip: the matches, the counts and the envelope it leaves. -/
def stepSt (arg0 : BitVec 32) (v186 : Vec F S1x16x1 .f32) (v188 : Vec F S1x1x128 .f32) (j : BitVec 32)
    (row : Vec F S1x8x512 .f32) (s : St F) : St F :=
  (k0_pay10 (k0_pay2 v186) (iota .tc S1x1x512 32 [2] iota_S1x1x512_d2_w32) row s.1,
    k0_pay4 s.2.1 (k0_pay11 (k0_pay2 v186) row s.1),
    k0_pay5 arg0 v188 j s.2.1 (k0_pay11 (k0_pay2 v186) row s.1) s.2.2)

theorem zero3 : (![0, 0, 0] : Fin 3 → ℕ) = fun _ => 0 := by funext a; fin_cases a <;> rfl
theorem zero2 : (![0, 0] : Fin 2 → ℕ) = fun _ => 0 := by funext a; fin_cases a <;> rfl

/-! A whole buffer read is its contents, and stored to is what is stored. -/
theorem get1 (M : Vec F S3x16x512 .f32) : scr1.view.readAt (Elt F)
    (Rect.unit (s := S3x16x512) ![0, 0, 0] S3x16x512.size inb_S3x16x512_S3x16x512_0_0_0).toLoadRect M = M :=
  Memref.readAt_unit_zero (Elt F) cc0_scratch1 zero3 _ M
theorem get2 (M : Vec F S3x16x1 .f32) : scr2.view.readAt (Elt F)
    (Rect.unit (s := S3x16x1) ![0, 0, 0] S3x16x1.size inb_S3x16x1_S3x16x1_0_0_0).toLoadRect M = M :=
  Memref.readAt_unit_zero (Elt F) cc0_scratch2 zero3 _ M
theorem get3 (M : Vec F S3x16x128 .f32) : scr3.view.readAt (Elt F)
    (Rect.unit (s := S3x16x128) ![0, 0, 0] S3x16x128.size inb_S3x16x128_S3x16x128_0_0_0).toLoadRect M = M :=
  Memref.readAt_unit_zero (Elt F) cc0_scratch3 zero3 _ M
theorem put1 (M w : Vec F S3x16x512 .f32) : scr1.view.writes (Elt F) M
    [⟨Rect.unit (s := S3x16x512) ![0, 0, 0] S3x16x512.size inb_S3x16x512_S3x16x512_0_0_0, w⟩] = w := by
  have h := Memref.write_access_unit_zero_univ (Elt F) cc0_scratch1 zero3 inb_S3x16x512_S3x16x512_0_0_0 M w
  exact h
theorem put2 (M w : Vec F S3x16x1 .f32) : scr2.view.writes (Elt F) M
    [⟨Rect.unit (s := S3x16x1) ![0, 0, 0] S3x16x1.size inb_S3x16x1_S3x16x1_0_0_0, w⟩] = w := by
  have h := Memref.write_access_unit_zero_univ (Elt F) cc0_scratch2 zero3 inb_S3x16x1_S3x16x1_0_0_0 M w
  exact h
theorem put3 (M w : Vec F S3x16x128 .f32) : scr3.view.writes (Elt F) M
    [⟨Rect.unit (s := S3x16x128) ![0, 0, 0] S3x16x128.size inb_S3x16x128_S3x16x128_0_0_0, w⟩] = w := by
  have h := Memref.write_access_unit_zero_univ (Elt F) cc0_scratch3 zero3 inb_S3x16x128_S3x16x128_0_0_0 M w
  exact h

/-! A trip reads the first three sublanes of a row only. -/

theorem slice_apply {X : Type} (v : S1x8x512.Idx → X) (a : Fin 3) (l : Fin 512) :
    extractStridedSlice S3x512 ![0, 0] (shapeCast S8x512 v shapeCasts_S1x8x512_S8x512) slices_S8x512_o0_0_S3x512 (ix2 a l)
      = v (ix3 0 ⟨a.val, by omega⟩ l) := by
  pointwise

theorem pay7_congr {row row' : Vec F S1x8x512 .f32} (h : ∀ (a : Fin 3) (l : Fin 512), row (ix3 0 ⟨a.val, by omega⟩ l) = row' (ix3 0 ⟨a.val, by omega⟩ l))
    (v187 : FVec F S1x16x1 .f32) (M : Vec F S3x16x512 .f32) : k0_pay7 v187 row M = k0_pay7 v187 row' M := by
  have e : extractStridedSlice S3x512 ![0, 0] (shapeCast S8x512 row shapeCasts_S1x8x512_S8x512) slices_S8x512_o0_0_S3x512
      = extractStridedSlice S3x512 ![0, 0] (shapeCast S8x512 row' shapeCasts_S1x8x512_S8x512) slices_S8x512_o0_0_S3x512 := by
    funext j
    rw [show j = ix2 (j 0) (j 1) from by funext a; fin_cases a <;> rfl]
    exact (slice_apply row _ _).trans ((h _ _).trans (slice_apply row' _ _).symm)
  unfold k0_pay7
  dsimp only
  rw [e]

theorem stepSt_congr {row row' : Vec F S1x8x512 .f32} (h : ∀ (a : Fin 3) (l : Fin 512), row (ix3 0 ⟨a.val, by omega⟩ l) = row' (ix3 0 ⟨a.val, by omega⟩ l))
    (arg0 : BitVec 32) (v186 : Vec F S1x16x1 .f32) (v188 : Vec F S1x1x128 .f32) (j : BitVec 32) (s : St F) :
    stepSt arg0 v186 v188 j row s = stepSt arg0 v186 v188 j row' s := by
  unfold stepSt k0_pay10 k0_pay11 k0_pay9 k0_pay8
  simp only [pay7_congr h]

section Trip

variable (c : Dev nD) (i : grid0.Coords)
  (arg1 : Memref sig .tc .vmem S3x200x4 .f32) (harg1 : arg1.IsWhole) (arg2 : Memref sig .tc .vmem S3x200x1 .i32)
  (harg2 : arg2.IsWhole) (arg3 : Memref sig .tc .vmem S3x4x512 .f32) (harg3 : arg3.IsWhole)
  (arg4 : Memref sig .tc .vmem S3x1x512 .i32) (harg4 : arg4.IsWhole) (arg5 : Memref sig .tc .vmem S1x16x1 .f32)
  (harg5 : arg5.IsWhole) (arg6 : Memref sig .tc .vmem S1x1x128 .f32) (harg6 : arg6.IsWhole)
  (arg7 : Memref sig .tc .vmem S3x128 .f32) (harg7 : arg7.IsWhole)
  (arg0 : BitVec 32) (v186 : Vec F S1x16x1 .f32) (v188 : Vec F S1x1x128 .f32)

/-- What a trip touches: the rows it reads, the three buffers it rewrites. -/
abbrev tripRes (f : Vec F S200x8x512 .f32) (s : St F) : sProp 𝕄 :=
  iprop(held c scr0 f ∗ held c scr1 s.1 ∗ held c scr2 s.2.1 ∗ held c scr3 s.2.2)

set_option maxHeartbeats 4000000 in
/-- One trip's run. -/
theorem trip (k : Fin k0_t1_loop.trips) (f : Vec F S200x8x512 .f32) (s : St F) :
    tripRes c f s
      ⊢ wp frame (wpE (defs₀ (F := F)) Variants.none (c : Thread nD τ) none) Set.univ
          (k0_t1_body i arg1 harg1 arg2 harg2 arg3 harg3 arg4 harg4 arg5 harg5 arg6 harg6 arg7 harg7
            scr0 (Memref.isWhole_whole _) scr1 (Memref.isWhole_whole _) scr2 (Memref.isWhole_whole _) scr3 (Memref.isWhole_whole _)
            arg0 v186 v188 (iota .tc S1x1x512 32 [2] iota_S1x1x512_d2_w32) k PUnit.unit)
          (fun _ => tripRes c f (stepSt arg0 v186 v188 (Scf.iv 0#32 1#32 k) (rowAt f k) s)) := by
  obtain ⟨M, C, A⟩ := s
  unfold k0_t1_body
  iintro ⟨H0, H1, H2, H3⟩
  sl_exec
  sl_step
  rw [put1, put2, put3, get1, get3, show trip.sl.r C = C from get2 C,
    show trip.sl.r_1 v186 k f M = k0_pay11 (k0_pay2 v186) (rowAt f k) M from by unfold trip.sl.r_1; rw [get1]; rfl,
    show trip.sl.arg12 k = Scf.iv 0#32 1#32 k from rfl]
  rw [show stepSt arg0 v186 v188 (Scf.iv 0#32 1#32 k) (rowAt f k) (M, C, A)
    = (k0_pay10 (k0_pay2 v186) (iota .tc S1x1x512 32 [2] iota_S1x1x512_d2_w32) (rowAt f k) M,
      k0_pay4 C (k0_pay11 (k0_pay2 v186) (rowAt f k) M),
      k0_pay5 arg0 v188 (Scf.iv 0#32 1#32 k) C (k0_pay11 (k0_pay2 v186) (rowAt f k) M) A) from rfl]
  unfold tripRes
  dsimp only
  isplitl [H0]; · iexact H0
  isplitl [H1]; · iexact H1
  isplitl [H2]; · iexact H2
  iexact H3

/-! ## The loop -/

variable (f : Vec F S200x8x512 .f32) (s₀ : St F)

/-- The state after `n` trips. -/
def stN : ℕ → St F
  | 0 => s₀
  | n + 1 => if h : n < k0_t1_loop.trips then
      stepSt arg0 v186 v188 (Scf.iv 0#32 1#32 n) (rowAt f ⟨n, h⟩) (stN n) else stN n

theorem stN_step (n : ℕ) : stN arg0 v186 v188 f s₀ (n + 1) = if h : n < k0_t1_loop.trips then
      stepSt arg0 v186 v188 (Scf.iv 0#32 1#32 n) (rowAt f ⟨n, h⟩) (stN arg0 v186 v188 f s₀ n)
    else stN arg0 v186 v188 f s₀ n := rfl

theorem stN_succ (k : Fin k0_t1_loop.trips) :
    stN arg0 v186 v188 f s₀ (k.val + 1)
      = stepSt arg0 v186 v188 (Scf.iv 0#32 1#32 k) (rowAt f k) (stN arg0 v186 v188 f s₀ k) := by
  rw [stN_step, dif_pos k.isLt]

/-- The loop's invariant. -/
@[reducible] def loopInv : Idealize.ShloMosaic.LoopInv (M := 𝕄) (Idealize.ShloMosaic.frame) (wpE (defs₀ (F := F)) Variants.none (c : Thread nD τ) none) Set.univ
    k0_t1_loop.lb k0_t1_loop.ub k0_t1_loop.st k0_t1_ok PUnit.unit
      (k0_t1_body i arg1 harg1 arg2 harg2 arg3 harg3 arg4 harg4 arg5 harg5 arg6 harg6 arg7 harg7
            scr0 (Memref.isWhole_whole _) scr1 (Memref.isWhole_whole _) scr2 (Memref.isWhole_whole _) scr3 (Memref.isWhole_whole _)
            arg0 v186 v188 (iota .tc S1x1x512 32 [2] iota_S1x1x512_d2_w32)) where
  inv n _ := tripRes c f (stN arg0 v186 v188 f s₀ n)
  step k _ := by
    show tripRes c f (stN arg0 v186 v188 f s₀ k) ⊢ wp _ _ _ _ (fun _ => tripRes c f (stN arg0 v186 v188 f s₀ (k.val + 1)))
    rw [stN_succ]
    exact trip c i arg1 harg1 arg2 harg2 arg3 harg3 arg4 harg4 arg5 harg5 arg6 harg6 arg7 harg7 arg0 v186 v188 k f _

theorem inv_zero : tripRes c f s₀
    ⊢ (loopInv c i arg1 harg1 arg2 harg2 arg3 harg3 arg4 harg4 arg5 harg5 arg6 harg6 arg7 harg7 arg0 v186 v188 f s₀).inv 0 PUnit.unit := .rfl
theorem inv_out (a : PUnit) :
    (loopInv c i arg1 harg1 arg2 harg2 arg3 harg3 arg4 harg4 arg5 harg5 arg6 harg6 arg7 harg7 arg0 v186 v188 f s₀).inv
      (Scf.trips k0_t1_loop.lb k0_t1_loop.ub k0_t1_loop.st) a
    ⊢ tripRes c f (stN arg0 v186 v188 f s₀ k0_t1_loop.trips) := .rfl

/-- The loop's run: from any state to the state 200 trips later. -/
theorem loop_run {β : Type} (kk : PUnit → Prog (TpuEff nD τ sig (Elt F) Λ₀ .tc) β) (Q : β → sProp 𝕄) :
    iprop(tripRes c f s₀
      ∗ (tripRes c f (stN arg0 v186 v188 f s₀ k0_t1_loop.trips)
        -∗ wp frame (wpE (defs₀ (F := F)) Variants.none (c : Thread nD τ) none) Set.univ (kk PUnit.unit) Q))
    ⊢ wp frame (wpE (defs₀ (F := F)) Variants.none (c : Thread nD τ) none) Set.univ
        (Scf.Loop.for k0_t1_loop k0_t1_ok PUnit.unit
          (k0_t1_body i arg1 harg1 arg2 harg2 arg3 harg3 arg4 harg4 arg5 harg5 arg6 harg6 arg7 harg7
            scr0 (Memref.isWhole_whole _) scr1 (Memref.isWhole_whole _) scr2 (Memref.isWhole_whole _) scr3 (Memref.isWhole_whole _)
            arg0 v186 v188 (iota .tc S1x1x512 32 [2] iota_S1x1x512_d2_w32))
          >>= kk) Q := by
  iintro ⟨H, Hk⟩
  iapply (exec_loop Idealize.ShloMosaic.frame (wpE (defs₀ (F := F)) Variants.none (c : Thread nD τ) none) Set.univ _ _ _ _ _ _
    (loopInv c i arg1 harg1 arg2 harg2 arg3 harg3 arg4 harg4 arg5 harg5 arg6 harg6 arg7 harg7 arg0 v186 v188 f s₀)) $$ [H]
  · iapply (inv_zero c i arg1 harg1 arg2 harg2 arg3 harg3 arg4 harg4 arg5 harg5 arg6 harg6 arg7 harg7 arg0 v186 v188 f s₀)
    iexact H
  · iintro %a H
    iapply Hk
    iapply (inv_out c i arg1 harg1 arg2 harg2 arg3 harg3 arg4 harg4 arg5 harg5 arg6 harg6 arg7 harg7 arg0 v186 v188 f s₀ a)
    iexact H

end Trip

end Cert.KernelIdeal.Kit

end
-- ==== Proof.KernelIdeal.Body.lean ====
/- The kernel's body, run once at each kind of grid point: from the six inputs' buffers at their contents and the
   scratch buffers at a state, it ends with the inputs as they were and the state 200 matching steps later. -/
module

public import proofs.«01_k».proof.Proof.KernelIdeal.Loop
public import Idealize.ShloMosaic.Lib.WritesUnit

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state the first point starts from. -/
def st0 : St F := (k0_pay12, k0_pay13, k0_pay14)

/-- Whether a point is the first, as the body decides it. -/
def isFirst (i : grid0.Coords) : BitVec 1 :=
  Scalar.cmpi .ne (Scalar.extui (Scalar.cmpi .eq (BitVec.ofNat 32 (i 0).val) 0#32)) 0#32

/-- The three cameras' masked overlaps, from the columns of the boxes and the labels: each is stored to its own sublane. -/
def iou0 (a0 a1 a2 a3 : Vec F S1x200x1 .f32) (b0 b1 b2 b3 : Vec F S1x1x512 .f32) (l : Vec F S1x200x1 .i32) (t : Vec F S1x1x512 .i32) :
    FVec F S200x1x512 .f32 :=
  k0_pay26 (k0_pay16 a1) (k0_pay18 a3) (k0_pay20 b1) (k0_pay22 b3) (k0_pay23 a0 a1 a2 a3) (k0_pay24 b0 b1 b2 b3)
    (k0_pay25 a0 a2 b0 b2) l t
def iou1 (a0 a1 a2 a3 : Vec F S1x200x1 .f32) (b0 b1 b2 b3 : Vec F S1x1x512 .f32) (l : Vec F S1x200x1 .i32) (t : Vec F S1x1x512 .i32) :
    FVec F S200x1x512 .f32 :=
  k0_pay37 (k0_pay35 (k0_pay27 a0) (k0_pay28 a1) a2 a3 b0 b1 b2 b3) (k0_pay36 (k0_pay27 a0) (k0_pay28 a1) a2 a3 b0 b1 b2 b3) l t
def iou2 (a0 a1 a2 a3 : Vec F S1x200x1 .f32) (b0 b1 b2 b3 : Vec F S1x1x512 .f32) (l : Vec F S1x200x1 .i32) (t : Vec F S1x1x512 .i32) :
    FVec F S200x1x512 .f32 :=
  k0_pay1 (k0_pay45 (k0_pay38 a0) (k0_pay39 a1) (k0_pay40 a2) (k0_pay41 a3) (k0_pay42 b0) (k0_pay43 b1) (k0_pay44 b2) b3 l t)

/-- The state a point starts its matching steps from. -/
def stIn (i : grid0.Coords) (s : St F) : St F := if isFirst i = 1#1 then st0 else s

/-- The rows of overlaps as three stores of `p0`, `p1`, `p2` into buffer contents `f`, newest first. -/
def iouL (f : Vec F S200x8x512 .f32) (p0 p1 p2 : FVec F S200x1x512 .f32) : Vec F S200x8x512 .f32 :=
  scr0.view.writes (Elt F) f
    [⟨Rect.unit (s := S200x8x512) ![0, 2, 0] S200x1x512.size inb_S200x8x512_S200x1x512_0_2_0, p2⟩,
     ⟨Rect.unit (s := S200x8x512) ![0, 1, 0] S200x1x512.size inb_S200x8x512_S200x1x512_0_1_0, p1⟩,
     ⟨Rect.unit (s := S200x8x512) ![0, 0, 0] S200x1x512.size inb_S200x8x512_S200x1x512_0_0_0, p0⟩]

/-- The same three on their own sublanes (the rest, which no step reads, holding the last). -/
def iouB (p0 p1 p2 : FVec F S200x1x512 .f32) : Vec F S200x8x512 .f32 := fun x =>
  if (x 1).val = 0 then p0 (ix3 (x 0) 0 (x 2)) else if (x 1).val = 1 then p1 (ix3 (x 0) 0 (x 2)) else p2 (ix3 (x 0) 0 (x 2))

theorem rowAt_apply (f : Vec F S200x8x512 .f32) (k : Fin k0_t1_loop.trips) (hk : k.val < 200) (a : Fin 8) (l : Fin 512) :
    rowAt f k (ix3 0 a l) = f (ix3 ⟨k.val, hk⟩ a l) := by
  unfold rowAt
  rw [View.readAt_apply]
  show f _ = f _
  congr 1
  funext b
  apply Fin.ext
  show k0_off1 k b + 1 * (ix3 (0 : Fin 1) a l b).val = _
  rw [k0_off1_eq]
  fin_cases b
  · show k.val + 1 * 0 = k.val; omega
  · show 0 + 1 * a.val = a.val; omega
  · show 0 + 1 * l.val = l.val; omega

/-- An element on a piece's sublane reads that piece. -/
theorem read_hit (f : Vec F S200x8x512 .f32) (o : ℕ) (inb) (w : FVec F S200x1x512 .f32) (L) (j : Fin 200) (ho : o < 8) (l : Fin 512) :
    scr0.view.read (Elt F) (scr0.view.writes (Elt F) f (⟨Rect.unit (s := S200x8x512) ![0, o, 0] S200x1x512.size inb, w⟩ :: L))
      (ix3 j (⟨o, ho⟩ : Fin 8) l) = w (ix3 j (0 : Fin 1) l) :=
  View.read_writes_cons_unit_of_mem scr0.view f inb w L _ (ix3 j (0 : Fin 1) l) rfl
    (Fin.cases (Nat.zero_add _).symm (Fin.cases (Nat.add_zero _).symm (Fin.cases (Nat.zero_add _).symm fun x => x.elim0)))

/-- An element below a piece's sublane reads what was there before. -/
theorem read_miss (f : Vec F S200x8x512 .f32) (o : ℕ) (inb) (w : FVec F S200x1x512 .f32) (L) (j : Fin 200) (a : Fin 8) (ho : a.val < o) (l : Fin 512) :
    scr0.view.read (Elt F) (scr0.view.writes (Elt F) f (⟨Rect.unit (s := S200x8x512) ![0, o, 0] S200x1x512.size inb, w⟩ :: L))
      (ix3 j a l) = scr0.view.read (Elt F) (scr0.view.writes (Elt F) f L) (ix3 j a l) :=
  View.read_writes_cons_unit_of_not_mem scr0.view f inb w L _ rfl (1 : Fin 3) (Or.inl ho)

theorem iouL_read (f : Vec F S200x8x512 .f32) (p0 p1 p2 : FVec F S200x1x512 .f32) (x : S200x8x512.Idx) :
    iouL f p0 p1 p2 x = scr0.view.read (Elt F) (iouL f p0 p1 p2) x :=
  (congrFun (View.read_whole (Val := Elt F) cc0_scratch0 (iouL f p0 p1 p2)) x).symm

theorem iouL_apply0 (f : Vec F S200x8x512 .f32) (p0 p1 p2 : FVec F S200x1x512 .f32) (j : Fin 200) (l : Fin 512) :
    iouL f p0 p1 p2 (ix3 j (⟨0, by omega⟩ : Fin 8) l) = p0 (ix3 j (0 : Fin 1) l) := by
  rw [iouL_read, iouL, read_miss f 2 _ _ _ j ⟨0, by omega⟩ (Nat.zero_lt_succ 1) l,
    read_miss f 1 _ _ _ j ⟨0, by omega⟩ (Nat.zero_lt_succ 0) l, read_hit f 0 _ _ _ j (by omega) l]

theorem iouL_apply1 (f : Vec F S200x8x512 .f32) (p0 p1 p2 : FVec F S200x1x512 .f32) (j : Fin 200) (l : Fin 512) :
    iouL f p0 p1 p2 (ix3 j (⟨1, by omega⟩ : Fin 8) l) = p1 (ix3 j (0 : Fin 1) l) := by
  rw [iouL_read, iouL, read_miss f 2 _ _ _ j ⟨1, by omega⟩ (Nat.lt_succ_self 1) l, read_hit f 1 _ _ _ j (by omega) l]

theorem iouL_apply2 (f : Vec F S200x8x512 .f32) (p0 p1 p2 : FVec F S200x1x512 .f32) (j : Fin 200) (l : Fin 512) :
    iouL f p0 p1 p2 (ix3 j (⟨2, by omega⟩ : Fin 8) l) = p2 (ix3 j (0 : Fin 1) l) := by
  rw [iouL_read, iouL, read_hit f 2 _ _ _ j (by omega) l]

theorem iouB_apply (p0 p1 p2 : FVec F S200x1x512 .f32) (j : Fin 200) (a : Fin 8) (l : Fin 512) :
    iouB p0 p1 p2 (ix3 j a l) = if a.val = 0 then p0 (ix3 j 0 l) else if a.val = 1 then p1 (ix3 j 0 l) else p2 (ix3 j 0 l) := rfl

theorem iouL_apply (f : Vec F S200x8x512 .f32) (p0 p1 p2 : FVec F S200x1x512 .f32) (j : Fin 200) (a : Fin 3) (l : Fin 512) :
    iouL f p0 p1 p2 (ix3 j ⟨a.val, by omega⟩ l) = iouB p0 p1 p2 (ix3 j ⟨a.val, by omega⟩ l) := by
  rw [iouB_apply]
  match a with
  | ⟨0, _⟩ => rw [iouL_apply0, if_pos rfl]
  | ⟨1, _⟩ => rw [iouL_apply1, if_neg (by simp), if_pos rfl]
  | ⟨2, _⟩ => rw [iouL_apply2, if_neg (by simp), if_neg (by simp)]

theorem trips_eq : k0_t1_loop.trips = 200 := by decide

/-- So the steps from the buffer are the steps from these. -/
theorem stN_iouL (arg0 : BitVec 32) (v186 : Vec F S1x16x1 .f32) (v188 : Vec F S1x1x128 .f32) (f : Vec F S200x8x512 .f32)
    (p0 p1 p2 : FVec F S200x1x512 .f32) (s : St F) (n : ℕ) :
    stN arg0 v186 v188 (iouL f p0 p1 p2) s n = stN arg0 v186 v188 (iouB p0 p1 p2) s n := by
  induction n with
  | zero => rw [stN, stN]
  | succ n ih =>
    rw [stN_step, stN_step, ih]
    by_cases h : n < k0_t1_loop.trips
    · rw [dif_pos h, dif_pos h]
      have hn : n < 200 := trips_eq ▸ h
      exact stepSt_congr (fun a l => by rw [rowAt_apply _ _ hn, rowAt_apply _ _ hn]; exact iouL_apply f p0 p1 p2 ⟨n, hn⟩ a l) _ _ _ _ _
    · rw [dif_neg h, dif_neg h]

section Body

variable (c : Dev nD) (i : grid0.Coords)
  (arg1 : Memref sig .tc .vmem S3x200x4 .f32) (harg1 : arg1.IsWhole) (arg2 : Memref sig .tc .vmem S3x200x1 .i32)
  (harg2 : arg2.IsWhole) (arg3 : Memref sig .tc .vmem S3x4x512 .f32) (harg3 : arg3.IsWhole)
  (arg4 : Memref sig .tc .vmem S3x1x512 .i32) (harg4 : arg4.IsWhole) (arg5 : Memref sig .tc .vmem S1x16x1 .f32)
  (harg5 : arg5.IsWhole) (arg6 : Memref sig .tc .vmem S1x1x128 .f32) (harg6 : arg6.IsWhole)
  (arg7 : Memref sig .tc .vmem S3x128 .f32) (harg7 : arg7.IsWhole)
  (f1 : Bf (F := F) c arg1) (f2 : Bf (F := F) c arg2) (f3 : Bf (F := F) c arg3) (f4 : Bf (F := F) c arg4)
  (f5 : Bf (F := F) c arg5) (f6 : Bf (F := F) c arg6)

/-- The inputs' buffers. -/
abbrev ins : sProp 𝕄 :=
  iprop(held c arg1 f1 ∗ held c arg2 f2 ∗ held c arg3 f3 ∗ held c arg4 f4 ∗ held c arg5 f5 ∗ held c arg6 f6)

/-- A column of the boxes' block, a row of the targets', the labels of a camera. -/
abbrev ldA (off : Fin 3 → ℕ) (h : ∀ a, off a + S1x200x1.size a ≤ S3x200x4.size a) : Vec F S1x200x1 .f32 :=
  arg1.view.readAt (Elt F) (Rect.unit (s := S3x200x4) off S1x200x1.size h).toLoadRect f1
abbrev ldL (off : Fin 3 → ℕ) (h : ∀ a, off a + S1x200x1.size a ≤ S3x200x1.size a) : Vec F S1x200x1 .i32 :=
  arg2.view.readAt (Elt F) (Rect.unit (s := S3x200x1) off S1x200x1.size h).toLoadRect f2
abbrev ldB (off : Fin 3 → ℕ) (h : ∀ a, off a + S1x1x512.size a ≤ S3x4x512.size a) : Vec F S1x1x512 .f32 :=
  arg3.view.readAt (Elt F) (Rect.unit (s := S3x4x512) off S1x1x512.size h).toLoadRect f3
abbrev ldT (off : Fin 3 → ℕ) (h : ∀ a, off a + S1x1x512.size a ≤ S3x1x512.size a) : Vec F S1x1x512 .i32 :=
  arg4.view.readAt (Elt F) (Rect.unit (s := S3x1x512) off S1x1x512.size h).toLoadRect f4

def p0 : FVec F S200x1x512 .f32 := iou0 (ldA c arg1 f1 ![0, 0, 0] inb_S3x200x4_S1x200x1_0_0_0) (ldA c arg1 f1 ![0, 0, 1] inb_S3x200x4_S1x200x1_0_0_1) (ldA c arg1 f1 ![0, 0, 2] inb_S3x200x4_S1x200x1_0_0_2) (ldA c arg1 f1 ![0, 0, 3] inb_S3x200x4_S1x200x1_0_0_3)
    (ldB c arg3 f3 ![0, 0, 0] inb_S3x4x512_S1x1x512_0_0_0) (ldB c arg3 f3 ![0, 1, 0] inb_S3x4x512_S1x1x512_0_1_0) (ldB c arg3 f3 ![0, 2, 0] inb_S3x4x512_S1x1x512_0_2_0) (ldB c arg3 f3 ![0, 3, 0] inb_S3x4x512_S1x1x512_0_3_0)
    (ldL c arg2 f2 ![0, 0, 0] inb_S3x200x1_S1x200x1_0_0_0) (ldT c arg4 f4 ![0, 0, 0] inb_S3x1x512_S1x1x512_0_0_0)
def p1 : FVec F S200x1x512 .f32 := iou1 (ldA c arg1 f1 ![1, 0, 0] inb_S3x200x4_S1x200x1_1_0_0) (ldA c arg1 f1 ![1, 0, 1] inb_S3x200x4_S1x200x1_1_0_1) (ldA c arg1 f1 ![1, 0, 2] inb_S3x200x4_S1x200x1_1_0_2) (ldA c arg1 f1 ![1, 0, 3] inb_S3x200x4_S1x200x1_1_0_3)
    (ldB c arg3 f3 ![1, 0, 0] inb_S3x4x512_S1x1x512_1_0_0) (ldB c arg3 f3 ![1, 1, 0] inb_S3x4x512_S1x1x512_1_1_0) (ldB c arg3 f3 ![1, 2, 0] inb_S3x4x512_S1x1x512_1_2_0) (ldB c arg3 f3 ![1, 3, 0] inb_S3x4x512_S1x1x512_1_3_0)
    (ldL c arg2 f2 ![1, 0, 0] inb_S3x200x1_S1x200x1_1_0_0) (ldT c arg4 f4 ![1, 0, 0] inb_S3x1x512_S1x1x512_1_0_0)
def p2 : FVec F S200x1x512 .f32 := iou2 (ldA c arg1 f1 ![2, 0, 0] inb_S3x200x4_S1x200x1_2_0_0) (ldA c arg1 f1 ![2, 0, 1] inb_S3x200x4_S1x200x1_2_0_1) (ldA c arg1 f1 ![2, 0, 2] inb_S3x200x4_S1x200x1_2_0_2) (ldA c arg1 f1 ![2, 0, 3] inb_S3x200x4_S1x200x1_2_0_3)
    (ldB c arg3 f3 ![2, 0, 0] inb_S3x4x512_S1x1x512_2_0_0) (ldB c arg3 f3 ![2, 1, 0] inb_S3x4x512_S1x1x512_2_1_0) (ldB c arg3 f3 ![2, 2, 0] inb_S3x4x512_S1x1x512_2_2_0) (ldB c arg3 f3 ![2, 3, 0] inb_S3x4x512_S1x1x512_2_3_0)
    (ldL c arg2 f2 ![2, 0, 0] inb_S3x200x1_S1x200x1_2_0_0) (ldT c arg4 f4 ![2, 0, 0] inb_S3x1x512_S1x1x512_2_0_0)

/-- The thresholds of the overlap and of the recall. -/
def ldThr : Vec F S1x16x1 .f32 :=
  arg5.view.readAt (Elt F) (Rect.unit (s := S1x16x1) ![0, 0, 0] S1x16x1.size inb_S1x16x1_S1x16x1_0_0_0).toLoadRect f5
def ldRec : Vec F S1x1x128 .f32 :=
  arg6.view.readAt (Elt F) (Rect.unit (s := S1x1x128) ![0, 0, 0] S1x1x128.size inb_S1x1x128_S1x1x128_0_0_0).toLoadRect f6

/-- The state the body leaves from the state `s`. -/
def stOut (s : St F) : St F :=
  stN (BitVec.ofNat 32 (i 0).val) (ldThr c arg5 f5) (ldRec c arg6 f6)
    (iouB (p0 c arg1 arg2 arg3 arg4 f1 f2 f3 f4) (p1 c arg1 arg2 arg3 arg4 f1 f2 f3 f4) (p2 c arg1 arg2 arg3 arg4 f1 f2 f3 f4))
    (stIn i s) k0_t1_loop.trips

/-- The corner of the envelope the mean is taken of. -/
def corner (A : Vec F S3x16x128 .f32) : Vec F S3x10x101 .f32 :=
  scr3.view.readAt (Elt F) (Rect.unit (s := S3x16x128) ![0, 0, 0] S3x10x101.size inb_S3x16x128_S3x10x101_0_0_0).toLoadRect A

/-- What the body leaves in the result's buffer. -/
def res7 (f7 : Bf (F := F) c arg7) (s : St F) : Bf (F := F) c arg7 :=
  if k0_cond2 i = 1#1 then
    arg7.view.writes (Elt F) f7 [⟨Rect.unit (s := S3x128) ![0, 0] S3x128.size inb_S3x128_S3x128_0_0, k0_pay6 (corner s.2.2)⟩]
  else f7

set_option maxHeartbeats 4000000 in
/-- The body's run. -/
theorem body_run (f7 : Bf (F := F) c arg7) (f8 : Vec F S200x8x512 .f32) (s : St F) (K : PUnit → sProp 𝕄) :
    iprop(ins c arg1 arg2 arg3 arg4 arg5 arg6 f1 f2 f3 f4 f5 f6 ∗ held c arg7 f7 ∗ tripRes c f8 s
      ∗ (iprop(ins c arg1 arg2 arg3 arg4 arg5 arg6 f1 f2 f3 f4 f5 f6
          ∗ held c arg7 (res7 c i arg7 f7 (stOut c i arg1 arg2 arg3 arg4 arg5 arg6 f1 f2 f3 f4 f5 f6 s))
          ∗ ∃ f8', tripRes c f8' (stOut c i arg1 arg2 arg3 arg4 arg5 arg6 f1 f2 f3 f4 f5 f6 s)) -∗ K PUnit.unit))
    ⊢ wp frame (wpE (defs₀ (F := F)) Variants.none (c : Thread nD τ) none) Set.univ
          (cc0__body i arg1 harg1 arg2 harg2 arg3 harg3 arg4 harg4 arg5 harg5 arg6 harg6 arg7 harg7
            scr0 (Memref.isWhole_whole _) scr1 (Memref.isWhole_whole _) scr2 (Memref.isWhole_whole _) scr3 (Memref.isWhole_whole _)) K := by
  obtain ⟨M, C, A⟩ := s
  iintro ⟨⟨H1, H2, H3, H4, H5, H6⟩, H7, ⟨H8, HM, HC, HA⟩, Hk⟩
  sl_exec_parts!
  unfold body_run.sl.H8_2 body_run.sl.H8_1
  have e2 : k0_pay1 (body_run.sl.r_19 c arg1 arg2 arg3 arg4 f1 f2 f3 f4) = p2 c arg1 arg2 arg3 arg4 f1 f2 f3 f4 := rfl
  have e1 : k0_pay37 (body_run.sl.r_10 c arg1 arg3 f1 f3) (body_run.sl.r_11 c arg1 arg3 f1 f3)
      (ldL c arg2 f2 ![1, 0, 0] inb_S3x200x1_S1x200x1_1_0_0) (ldT c arg4 f4 ![1, 0, 0] inb_S3x1x512_S1x1x512_1_0_0)
    = p1 c arg1 arg2 arg3 arg4 f1 f2 f3 f4 := rfl
  have e0 : k0_pay26 (body_run.sl.r c arg1 f1) (body_run.sl.r_1 c arg1 f1) (body_run.sl.r_2 c arg3 f3)
      (body_run.sl.r_3 c arg3 f3) (body_run.sl.r_4 c arg1 f1) (body_run.sl.r_5 c arg3 f3) (body_run.sl.r_6 c arg1 arg3 f1 f3)
      (ldL c arg2 f2 ![0, 0, 0] inb_S3x200x1_S1x200x1_0_0_0) (ldT c arg4 f4 ![0, 0, 0] inb_S3x1x512_S1x1x512_0_0_0)
    = p0 c arg1 arg2 arg3 arg4 f1 f2 f3 f4 := rfl
  rw [e2, e1, e0]
  have e8 : scr0.view.writes (Elt F) f8
      [⟨Rect.unit (s := S200x8x512) ![0, 2, 0] S200x1x512.size inb_S200x8x512_S200x1x512_0_2_0, p2 c arg1 arg2 arg3 arg4 f1 f2 f3 f4⟩,
       ⟨Rect.unit (s := S200x8x512) ![0, 1, 0] S200x1x512.size inb_S200x8x512_S200x1x512_0_1_0, p1 c arg1 arg2 arg3 arg4 f1 f2 f3 f4⟩,
       ⟨Rect.unit (s := S200x8x512) ![0, 0, 0] S200x1x512.size inb_S200x8x512_S200x1x512_0_0_0, p0 c arg1 arg2 arg3 arg4 f1 f2 f3 f4⟩]
    = iouL f8 (p0 c arg1 arg2 arg3 arg4 f1 f2 f3 f4) (p1 c arg1 arg2 arg3 arg4 f1 f2 f3 f4) (p2 c arg1 arg2 arg3 arg4 f1 f2 f3 f4) := by
    unfold iouL; rfl
  rw [e8]
  have eM : (if hc : body_run.sl.v2 i = 1#1 then
      scr1.view.writes (Elt F) M [⟨Rect.unit (s := S3x16x512) ![0, 0, 0] S3x16x512.size inb_S3x16x512_S3x16x512_0_0_0, k0_pay12⟩]
    else (M, C, A).1) = (stIn i (M, C, A)).1 := by
    unfold stIn
    by_cases h1 : isFirst i = 1#1
    · rw [if_pos h1, dif_pos (show body_run.sl.v2 i = 1#1 from h1), put1]; rfl
    · rw [if_neg h1, dif_neg (show ¬ body_run.sl.v2 i = 1#1 from h1)]
  have eC : (if hc : body_run.sl.v2 i = 1#1 then
      scr2.view.writes (Elt F) C [⟨Rect.unit (s := S3x16x1) ![0, 0, 0] S3x16x1.size inb_S3x16x1_S3x16x1_0_0_0, k0_pay13⟩]
    else (M, C, A).2.1) = (stIn i (M, C, A)).2.1 := by
    unfold stIn
    by_cases h1 : isFirst i = 1#1
    · rw [if_pos h1, dif_pos (show body_run.sl.v2 i = 1#1 from h1), put2]; rfl
    · rw [if_neg h1, dif_neg (show ¬ body_run.sl.v2 i = 1#1 from h1)]
  have eA : (if hc : body_run.sl.v2 i = 1#1 then
      scr3.view.writes (Elt F) A [⟨Rect.unit (s := S3x16x128) ![0, 0, 0] S3x16x128.size inb_S3x16x128_S3x16x128_0_0_0, k0_pay14⟩]
    else (M, C, A).2.2) = (stIn i (M, C, A)).2.2 := by
    unfold stIn
    by_cases h1 : isFirst i = 1#1
    · rw [if_pos h1, dif_pos (show body_run.sl.v2 i = 1#1 from h1), put3]; rfl
    · rw [if_neg h1, dif_neg (show ¬ body_run.sl.v2 i = 1#1 from h1)]
  rw [eM, eC, eA]
  rw [show body_run.sl.v190 = iota .tc S1x1x512 32 [2] iota_S1x1x512_d2_w32 from rfl]
  iapply (loop_run c i arg1 harg1 arg2 harg2 arg3 harg3 arg4 harg4 arg5 harg5 arg6 harg6 arg7 harg7 (BitVec.ofNat 32 (i 0).val)
    (ldThr c arg5 f5) (ldRec c arg6 f6)
    (iouL f8 (p0 c arg1 arg2 arg3 arg4 f1 f2 f3 f4) (p1 c arg1 arg2 arg3 arg4 f1 f2 f3 f4) (p2 c arg1 arg2 arg3 arg4 f1 f2 f3 f4))
    (stIn i (M, C, A))) $$ [H1 H2 H3 H4 H5 H6 H7 H8 HM HC HA Hk]
  isplitl [H8 HM HC HA]
  · isplitl [H8]; · iexact H8
    isplitl [HM]; · iexact HM
    isplitl [HC]; · iexact HC
    iexact HA
  rw [stN_iouL]
  iintro ⟨H8, HM, HC, HA⟩
  sl_exec_parts!
  sl_step
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]
  · rw [show res7 c i arg7 f7 (stOut c i arg1 arg2 arg3 arg4 arg5 arg6 f1 f2 f3 f4 f5 f6 (M, C, A))
      = (if hc : k0_cond2 i = 1#1 then arg7.view.writes (Elt F) f7
          [⟨Rect.unit (s := S3x128) ![0, 0] S3x128.size inb_S3x128_S3x128_0_0,
            k0_pay6 (body_run.sl.v195 c i arg1 arg2 arg3 arg4 arg5 arg6 f1 f2 f3 f4 f5 f6 M C A)⟩] else f7) from by
      unfold res7; rfl]
    iexact H7
  iexists (iouL f8 (p0 c arg1 arg2 arg3 arg4 f1 f2 f3 f4) (p1 c arg1 arg2 arg3 arg4 f1 f2 f3 f4) (p2 c arg1 arg2 arg3 arg4 f1 f2 f3 f4))
  isplitl [H8]; · iexact H8
  isplitl [HM]; · iexact HM
  isplitl [HC]; · iexact HC
  iexact HA

end Body

end Cert.KernelIdeal.Kit

end
-- ==== Proof.KernelIdeal.Run.lean ====
/- The launch of the kernel program: the run of its one region from the body's run, the frame, and what the
   result's array holds at the end. -/
module

public import proofs.«01_k».proof.Proof.KernelIdeal.Body
public import proofs.«01_k».proof.Proof.Gen.KernelIdeal.Frame
import Idealize.ShloMosaic.Lib.Claim

@[expose] public section

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxRecDepth 16384

open Idealize.ShloMosaic.Pipeline (Dat Cfg Window BodyObligation cellOf)

variable (m : (ℓ : Loc nD τ sig) → Buf (Elt F) ℓ) (ρ : Dev nD → PrngReg)

/-! The windows' staging buffers at a point, as the body is passed them. -/
abbrev ms0 (t : Fin cfg0.N) : Memref sig .tc .vmem S3x200x4 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S3x200x1 .i32 := win0_1.stage (cfg0.slots t 1)
theorem hs1 (t : Fin cfg0.N) : (ms1 t).IsWhole := hstage0_1 ((cfg0.slots t 1).cast nbuf0_1)
abbrev ms2 (t : Fin cfg0.N) : Memref sig .tc .vmem S3x4x512 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S3x1x512 .i32 := win0_3.stage (cfg0.slots t 3)
theorem hs3 (t : Fin cfg0.N) : (ms3 t).IsWhole := hstage0_3 ((cfg0.slots t 3).cast nbuf0_3)
abbrev ms4 (t : Fin cfg0.N) : Memref sig .tc .vmem S1x16x1 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S1x1x128 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S3x128 .f32 := win0_6.stage (cfg0.slots t 6)
theorem hs6 (t : Fin cfg0.N) : (ms6 t).IsWhole := hstage0_6 ((cfg0.slots t 6).cast nbuf0_6)

/-- What the body makes at point `t` of the scratch state `s`. -/
def stAt (c : Dev nD) (t : Fin cfg0.N) (s : St F) : St F :=
  stOut c (grid0.coords t) (ms0 t) (ms1 t) (ms2 t) (ms3 t) (ms4 t) (ms5 t)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) s

/-- The scratch state before point `n`. -/
def stPt (c : Dev nD) : ℕ → St F
  | 0 => st0
  | n + 1 => if h : n < cfg0.N then stAt m c ⟨n, h⟩ (stPt c n) else stPt c n

theorem stPt_succ (c : Dev nD) (t : Fin cfg0.N) : stPt m c (t.val + 1) = stAt m c t (stPt m c t.val) := by
  rw [stPt, dif_pos t.isLt]

/-- The first point takes nothing from the state it finds. -/
theorem stAt_zero (c : Dev nD) (t : Fin cfg0.N) (h : t.val = 0) (s s' : St F) : stAt m c t s = stAt m c t s' := by
  have hf : isFirst (grid0.coords t) = 1#1 := by
    obtain rfl : t = ⟨0, by rw [show cfg0.N = 10 from N_0]; decide⟩ := Fin.ext h
    decide
  unfold stAt stOut stIn
  rw [if_pos hf, if_pos hf]

theorem last_iff (t : Fin cfg0.N) : k0_cond2 (grid0.coords t) = 1#1 ↔ t.val = 9 := by
  revert t; decide

/-- What the last point leaves in the result's buffer. -/
def outVec (c : Dev nD) (t : Fin cfg0.N) : Vec F S3x128 .f32 := k0_pay6 (corner (stPt m c (t.val + 1)).2.2)

/-- A store of a whole buffer read back. -/
theorem read_full (t : Fin cfg0.N) (f : (ms6 t).view.ty.Contents (Elt F)) (w : Vec F S3x128 .f32) :
    (ms6 t).view.read (Elt F) ((ms6 t).view.writes (Elt F) f
      [⟨Rect.unit (s := S3x128) ![0, 0] S3x128.size inb_S3x128_S3x128_0_0, w⟩]) = w := by
  funext y
  exact View.read_writes_cons_unit_of_mem (ms6 t).view f _ w [] y y rfl
    (Fin.cases (Nat.zero_add _).symm (Fin.cases (Nat.zero_add _).symm fun x => x.elim0))

/-- The launch's invariant with the scratch buffers held whole at some contents. -/
theorem inv_eq (c : Dev nD) :
    (Pipeline.ΦA spec0 c : sProp 𝕄)
      = iprop(((∃ f, held (F := F) c scr0 f) ∗ (∃ f, held (F := F) c scr1 f) ∗ (∃ f, held (F := F) c scr2 f) ∗ (∃ f, held (F := F) c scr3 f))
          ∗ (∃ r, prngReg c r)) := by
  unfold Pipeline.ΦA; rw [scopedRest0_eq]; simp only [held, Memref.view_whole, View.set_whole]

/-- The scratch state `s` held. -/
def tracked (c : Dev nD) (s : St F) : sProp 𝕄 := iprop((∃ f8, tripRes c f8 s) ∗ (∃ r, prngReg c r))

theorem tracked_forget (c : Dev nD) (s : St F) : tracked c s ⊢ (Pipeline.ΦA spec0 c : sProp 𝕄) := by
  rw [inv_eq]; unfold tracked
  iintro ⟨⟨%f8, H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

theorem tracked_intro (c : Dev nD) : (Pipeline.ΦA spec0 c : sProp 𝕄) ⊢ iprop(∃ s, tracked c s) := by
  rw [inv_eq]
  iintro ⟨⟨⟨%f, H0⟩, ⟨%M, H1⟩, ⟨%C, H2⟩, ⟨%A, H3⟩⟩, Hg⟩
  iexists ((M, C, A) : St F)
  unfold tracked
  isplitl [H0 H1 H2 H3]
  · iexists f
    isplitl [H0]; · iexact H0
    isplitl [H1]; · iexact H1
    isplitl [H2]; · iexact H2
    iexact H3
  iexact Hg

/-- The proof data of the region on core `c`: arrays as the region finds them, inputs left in place, the scratch
    state followed from point to point, the result's buffer at `outVec`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVec m c t
  Φ t := if t.val = 0 then Pipeline.ΦA spec0 c else tracked c (stPt m c t.val)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outVec m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem Φ_succ (c : Dev nD) (t : Fin cfg0.N) : (dats m 0 c).Φ t.succ = tracked c (stAt m c t (stPt m c t.val)) := by
  dsimp only [dats]
  rw [if_neg (by simp), ← stPt_succ]; rfl

theorem Φ_open (c : Dev nD) (t : Fin cfg0.N) :
    (dats m 0 c).Φ t.castSucc ⊢ iprop(∃ s, ⌜stAt m c t s = stAt m c t (stPt m c t.val)⌝ ∗ tracked c s) := by
  dsimp only [dats]
  by_cases h : t.val = 0
  · rw [if_pos (show t.castSucc.val = 0 from h)]
    refine (tracked_intro c).trans ?_
    iintro ⟨%s, H⟩
    iexists s
    isplitr; · ipureintro; exact stAt_zero m c t h _ _
    iexact H
  · rw [if_neg (show ¬ t.castSucc.val = 0 from h)]
    iintro H
    iexists (stPt m c t.val)
    isplitr; · ipureintro; rfl
    iexact H

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns: the result's buffer at point 9, and as it was found before. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

theorem six_live (c : Dev nD) (t : Fin cfg0.N) (h : k0_cond2 (grid0.coords t) = 1#1) :
    (dats m 0 c).leavesExact 6 t = owns (c : Thread nD τ) (ms6 t) fullShare ((dats m 0 c).after 6 t) := by
  have hi : cfg0.idle 6 (cfg0.grid.coords t) = false := by
    show (!(k0_cond2 (grid0.coords t) == 1#1)) = false
    rw [h]; rfl
  unfold Dat.leavesExact; rw [hi]

theorem six_idle (c : Dev nD) (t : Fin cfg0.N) (h : ¬ k0_cond2 (grid0.coords t) = 1#1) :
    (dats m 0 c).leavesExact 6 t = iprop(∃ d, owns (c : Thread nD τ) (ms6 t) fullShare ((dats m 0 c).before 6 t d)) := by
  have hi : cfg0.idle 6 (cfg0.grid.coords t) = true := by
    show (!(k0_cond2 (grid0.coords t) == 1#1)) = true
    simp [h]
  refine Dat.leavesExact_idle _ 6 t hi ?_
  have hN : cfg0.N = 10 := N_0
  have ht := t.isLt
  rw [last_iff] at h
  rw [Bool.eq_false_iff, ne_eq, flush0_6]
  omega

set_option maxHeartbeats 1600000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, Φ_succ]
  refine (Idealize.SL.BI.Laws.sep_mono_left (Φ_open m c t)).trans ?_
  unfold tracked owns
  iintro ⟨⟨%s, %hst, ⟨%f8, H8⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  obtain rfl := (hs0 t).eq_unread e0
  obtain rfl := (hs1 t).eq_unread e1
  obtain rfl := (hs2 t).eq_unread e2
  obtain rfl := (hs3 t).eq_unread e3
  obtain rfl := (hs4 t).eq_unread e4
  obtain rfl := (hs5 t).eq_unread e5
  iapply (body_run c (grid0.coords t) (ms0 t) (hs0 t) (ms1 t) (hs1 t) (ms2 t) (hs2 t) (ms3 t) (hs3 t) (ms4 t) (hs4 t) (ms5 t) (hs5 t) (ms6 t) (hs6 t)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) f6 f8 s _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H8]; · iexact H8
  iintro ⟨⟨H0, H1, H2, H3, H4, H5⟩, H6, ⟨%f8', H8⟩⟩
  rw [show stOut c (grid0.coords t) (ms0 t) (ms1 t) (ms2 t) (ms3 t) (ms4 t) (ms5 t)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) s = stAt m c t (stPt m c t.val) from hst]
  isplitl [H8 Hg]
  · isplitl [H8]; · iexists f8'; iexact H8
    iexact Hg
  isplitl [Ho]; · iexact Ho
  isplitl [H0]
  · iexists _; isplitr; · ipureintro; exact (hs0 t).read_unread _
    iexact H0
  isplitl [H1]
  · iexists _; isplitr; · ipureintro; exact (hs1 t).read_unread _
    iexact H1
  isplitl [H2]
  · iexists _; isplitr; · ipureintro; exact (hs2 t).read_unread _
    iexact H2
  isplitl [H3]
  · iexists _; isplitr; · ipureintro; exact (hs3 t).read_unread _
    iexact H3
  isplitl [H4]
  · iexists _; isplitr; · ipureintro; exact (hs4 t).read_unread _
    iexact H4
  isplitl [H5]
  · iexists _; isplitr; · ipureintro; exact (hs5 t).read_unread _
    iexact H5
  by_cases h : k0_cond2 (grid0.coords t) = 1#1
  · rw [six_live m c t h, after_6]
    unfold owns res7
    rw [if_pos h]
    iexists _; isplitr
    swap; · iexact H6
    ipureintro
    rw [read_full, outVec, stPt_succ]
  · rw [six_idle m c t h]
    unfold owns res7
    rw [if_neg h]
    iexists d6; iexists _; isplitr
    swap; · iexact H6
    ipureintro; exact e6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  dsimp only [dats]
  rw [if_pos (show (0 : Fin (cfg0.N + 1)).val = 0 from rfl)]

theorem hout (c : Dev nD) : (dats m 0 c).Φ (Fin.last cfg0.N) ⊢ (Pipeline.ΦA spec0 c : sProp 𝕄) := by
  dsimp only [dats]
  rw [if_neg (by rw [Fin.val_last, show cfg0.N = 10 from N_0]; decide)]
  exact tracked_forget c _

set_option backward.isDefEq.respectTransparency.types false in
set_option maxHeartbeats 800000 in
/-- Every fair execution ends, with the pipeline's arrays at what the proof data gives, every other unscoped buffer
    as the host lines leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => hin m c) (hout := fun c => hout m c)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution ends with the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Kit

end
-- ==== Proof.RefFrame.lean ====
/- The reference's frame: its run ends with the arguments as they were. The loop and the host lines write no argument. -/
module

public import proofs.«01_k».proof.Proof.Gen.ReferenceIdeal.Run
public import Idealize.ShloMosaic.Lib.Quiescent

@[expose] public section

noncomputable section

namespace Cert.ReferenceIdeal.Kit

open Cert.ReferenceIdeal.Gen Cert.ReferenceIdeal.Value
open Idealize.ShloMosaic Idealize.ShloMosaic.TcCoe Idealize.ShloMosaic.Tactic Idealize.ShloMosaic.StableHlo
open Idealize.SL Idealize.SL.Sem

variable {F : FTy → Type} [FloatOps F]

/-- What the loop writes. -/
abbrev loopW : List (Ref sig .tc) :=
  condOps_W ++ (while0Ops0_W ++ (while0Ops0_1_W ++ (while0Ops0_2_W ++ (while0Ops0_3_W ++ (while0Ops0_4_W ++ (while0Ops0_5_W
    ++ (while0Ops0_6_W ++ (while0Ops0_7_W ++ while0Ops0_8_W))))))))

/-- A trip leaves a buffer the loop does not write as it was. -/
theorem trip_keeps (b : Ref sig .tc) (h : b ∉ loopW) (V : Valuation τ sig (Elt F)) :
    afterL bodyI (after condOps V) (Proc.devRef .tc b) = V (Proc.devRef .tc b) := by
  simp only [loopW, List.mem_append, not_or] at h
  obtain ⟨hc, h0, h1, h2, h3, h4, h5, h6, h7, h8⟩ := h
  simp only [afterL_cons, afterL_nil]
  rw [after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

/-- So before any trip it holds what it held when the loop was entered. -/
theorem atK_keeps (m : (ℓ : Loc nD τ sig) → Buf (Elt F) ℓ) (c : Dev nD) (b : Ref sig .tc) (h : b ∉ loopW) :
    ∀ k, atK m k c (Proc.devRef .tc b) = entryContents preI m c (Proc.devRef .tc b)
  | 0 => rfl
  | k + 1 => (trip_keeps b h (atK m k c)).trans (atK_keeps m c b h k)

/-- What the last stretch leaves, with the loop's end opened. -/
theorem final_eq (m : (ℓ : Loc nD τ sig) → Buf (Elt F) ℓ) (c : Dev nD) :
    finalContents condOps preI bodyI postI 2000 m c = afterL postI (after condOps (atK m 2000 c)) := rfl

/-- An argument ends as it was. -/
theorem final_arg (m : (ℓ : Loc nD τ sig) → Buf (Elt F) ℓ) (c : Dev nD) (b : Ref sig .tc)
    (hb : b = main_arg0 ∨ b = main_arg1 ∨ b = main_arg2 ∨ b = main_arg3 ∨ b = main_arg4) :
    finalContents condOps preI bodyI postI 2000 m c (Proc.devRef .tc b) = m ((c.tc : Thread nD τ).loc b) := by
  rw [final_eq]
  simp only [afterL_cons, afterL_nil]
  rcases hb with rfl | rfl | rfl | rfl | rfl
  all_goals
    after_reads_simp
    rw [atK_keeps m c _ (by decide)]
    simp only [entryContents, afterL_cons, afterL_nil]
    after_reads_simp

/-- The frame of the reference at any values: it ends with its arguments as they were and every counter at zero. -/
theorem frame_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h c main_arg0 rfl).trans (final_arg m c _ (by simp)),
      (h c main_arg1 rfl).trans (final_arg m c _ (by simp)), (h c main_arg2 rfl).trans (final_arg m c _ (by simp)),
      (h c main_arg3 rfl).trans (final_arg m c _ (by simp)), (h c main_arg4 rfl).trans (final_arg m c _ (by simp))⟩,
    sem_eq_zero_of_no_sems (by decide) r.2⟩) (run_fold m ρ)

end Cert.ReferenceIdeal.Kit

end
-- ==== Proof.Spec.lean ====
/- The mathematics the kernel and the reference share: greedy matching of one camera at one threshold, as a recursion
   over the predictions, and the interpolated precision as a running maximum. -/
module

public import Idealize.ShloMosaic.Lib.Pointwise

@[expose] public section

noncomputable section

namespace Cert.Spec

open Idealize.ShloMosaic Classical

/-! ## One matching step -/

section Step

variable {n : ℕ} (θ : EReal) (x : Fin n → EReal) (L M : Fin n → Prop)

/-- A target a prediction may be matched with: overlap at least the threshold, same label, not yet matched. -/
def cand (l : Fin n) : Prop := θ ≤ x l ∧ L l ∧ ¬ M l
/-- The overlaps of the candidates, −1 elsewhere. -/
def masked (l : Fin n) : EReal := if cand θ x L M l then x l else -1
def has : Prop := ∃ l, cand θ x L M l
/-- The first index at which `f` is greatest. -/
def isFirst (f : Fin n → EReal) (l : Fin n) : Prop := (∀ l', f l' ≤ f l) ∧ ∀ l' < l, f l' < f l
/-- The targets matched after the step. -/
def next (l : Fin n) : Prop := M l ∨ (isFirst (masked θ x L M) l ∧ has θ x L M)

end Step

/-! ## All steps -/

section Run

variable {n : ℕ} (θ : EReal) (x : ℕ → Fin n → EReal) (L : ℕ → Fin n → Prop)

/-- The targets matched before prediction `i`. -/
def mm : ℕ → Fin n → Prop
  | 0 => fun _ => False
  | i + 1 => next θ (x i) (L i) (mm i)
/-- Prediction `i` finds a match. -/
def hit (i : ℕ) : Prop := has θ (x i) (L i) (mm θ x L i)
/-- How many of the first `i` predictions do. -/
def cnt : ℕ → ℕ
  | 0 => 0
  | i + 1 => cnt i + if hit θ x L i then 1 else 0

theorem cnt_le (i : ℕ) : cnt θ x L i ≤ i := by
  induction i with
  | zero => exact le_rfl
  | succ i ih => rw [cnt]; split <;> omega

theorem cnt_mono : Monotone (cnt θ x L) := monotone_nat_of_le_succ fun i => by rw [cnt]; omega

/-- Recall and precision after prediction `i`. -/
def recall (i : ℕ) : EReal := (((cnt θ x L (i + 1) : ℕ) : ℝ) / 500 : ℝ)
def prec (i : ℕ) : EReal := (((cnt θ x L (i + 1) : ℕ) : ℝ) / ((i + 1 : ℕ) : ℝ) : ℝ)

/-- The best precision at recall at least `ρ`, over the first `i` predictions. -/
def env (ρ : EReal) : ℕ → EReal
  | 0 => 0
  | i + 1 => max (env ρ i) (if ρ ≤ recall θ x L i then prec θ x L i else 0)

theorem recall_mono : Monotone (recall θ x L) := fun i j h => by
  unfold recall
  rw [EReal.coe_le_coe_iff]
  have := cnt_mono θ x L (Nat.succ_le_succ h)
  have : ((cnt θ x L (i + 1) : ℕ) : ℝ) ≤ ((cnt θ x L (j + 1) : ℕ) : ℝ) := by exact_mod_cast this
  linarith

theorem prec_nonneg (i : ℕ) : 0 ≤ prec θ x L i := by
  unfold prec
  rw [show (0 : EReal) = ((0 : ℝ) : EReal) from rfl, EReal.coe_le_coe_iff]
  positivity

theorem env_le_iff (ρ : EReal) (i : ℕ) (b : EReal) :
    env θ x L ρ i ≤ b ↔ 0 ≤ b ∧ ∀ k < i, ρ ≤ recall θ x L k → prec θ x L k ≤ b := by
  induction i with
  | zero => simp [env]
  | succ i ih =>
    rw [env, max_le_iff, ih]
    constructor
    · rintro ⟨⟨h0, h⟩, h1⟩
      refine ⟨h0, fun k hk hr => ?_⟩
      rcases Nat.lt_succ_iff_lt_or_eq.mp hk with hk | rfl
      · exact h k hk hr
      · rwa [if_pos hr] at h1
    · rintro ⟨h0, h⟩
      refine ⟨⟨h0, fun k hk => h k (by omega)⟩, ?_⟩
      split
      · exact h i (by omega) ‹_›
      · exact h0

/-- The interpolated precision read at the number of predictions of recall below `ρ` is the running maximum. -/
theorem env_eq (ρ : EReal) (N K : ℕ) (hK : ∀ i < N, (K ≤ i ↔ ρ ≤ recall θ x L i)) (E : EReal)
    (hE : ∀ k, K ≤ k → k < N → prec θ x L k ≤ E) (hE' : K < N → ∃ k, K ≤ k ∧ k < N ∧ E = prec θ x L k) :
    env θ x L ρ N = if K < N then E else 0 := by
  split
  · obtain ⟨k, h1, h2, h3⟩ := hE' ‹_›
    apply le_antisymm
    · rw [env_le_iff]
      exact ⟨h3 ▸ prec_nonneg θ x L k, fun k hk hr => hE k ((hK k hk).mpr hr) hk⟩
    · rw [h3]
      exact ((env_le_iff θ x L ρ N _).mp le_rfl).2 k h2 ((hK k h2).mp h1)
  · apply le_antisymm
    · rw [env_le_iff]
      exact ⟨le_rfl, fun k hk hr => absurd ((hK k hk).mpr hr) (by omega)⟩
    · exact ((env_le_iff θ x L ρ N _).mp le_rfl).1

end Run

/-- The number of members of a growing list below `ρ` is where it passes `ρ`. -/
theorem count_iff {N : ℕ} (R : ℕ → EReal) (hR : Monotone R) (ρ : EReal) (i : ℕ) (hi : i < N) :
    ((Finset.univ.filter fun k : Fin N => R k.val < ρ).card ≤ i ↔ ρ ≤ R i) := by
  constructor
  · intro h
    by_contra hc
    rw [not_le] at hc
    have : (Finset.univ.filter fun k : Fin N => k.val ≤ i) ⊆ Finset.univ.filter fun k : Fin N => R k.val < ρ := by
      intro k hk
      simp only [Finset.mem_filter, Finset.mem_univ, true_and] at hk ⊢
      exact lt_of_le_of_lt (hR hk) hc
    have h2 := Finset.card_le_card this
    have h3 : (Finset.univ.filter fun k : Fin N => k.val ≤ i).card = i + 1 := by
      have : (Finset.univ.filter fun k : Fin N => k.val ≤ i) = Finset.Iic (⟨i, hi⟩ : Fin N) := by
        ext k; simp [Fin.le_def]
      rw [this, Fin.card_Iic]
    omega
  · intro h
    have : (Finset.univ.filter fun k : Fin N => R k.val < ρ) ⊆ Finset.Iio (⟨i, hi⟩ : Fin N) := by
      intro k hk
      simp only [Finset.mem_filter, Finset.mem_univ, true_and, Finset.mem_Iio, Fin.lt_def] at hk ⊢
      by_contra hc
      exact absurd (lt_of_le_of_lt (h.trans (hR (not_lt.mp hc))) hk) (lt_irrefl _)
    have h2 := Finset.card_le_card this
    rwa [Fin.card_Iio] at h2

theorem neg_one_lt : (-1 : EReal) < 0 := by
  rw [show (-1 : EReal) = ((-1 : ℝ) : EReal) from by simp, show (0 : EReal) = ((0 : ℝ) : EReal) from rfl, EReal.coe_lt_coe_iff]
  norm_num

/-! ## The greatest of a row, and its first place -/

theorem fold_max_spec {n : ℕ} (b : EReal) (g : Fin n → EReal) (hb : ∀ l, b ≤ g l) (l₀ : Fin n) :
    (∀ l, g l ≤ Finset.univ.fold max b g) ∧ ∃ l, Finset.univ.fold max b g = g l := by
  have h1 : ∀ l, g l ≤ Finset.univ.fold max b g := fun l =>
    (Finset.le_fold_max _).mpr (Or.inr ⟨l, Finset.mem_univ l, le_rfl⟩)
  refine ⟨h1, ?_⟩
  rcases (Finset.le_fold_max _).mp (le_refl (Finset.univ.fold max b g)) with h | ⟨l, -, h⟩
  · exact ⟨l₀, le_antisymm (h.trans (hb l₀)) (h1 l₀)⟩
  · exact ⟨l, le_antisymm h (h1 l)⟩

/-- Over a row of 512 lanes, of which the last hold −1, the first greatest is that of the first 500. -/
theorem isFirst_lanes {θ : EReal} (hθ : 0 < θ) {x : Fin 500 → EReal} {L M : Fin 500 → Prop} (g : Fin 512 → EReal)
    (hg : ∀ l : Fin 500, g ⟨l.val, by omega⟩ = masked θ x L M l) (hp : ∀ l : Fin 512, 500 ≤ l.val → g l = -1)
    (hh : has θ x L M) (l : Fin 500) : isFirst g ⟨l.val, by omega⟩ ↔ isFirst (masked θ x L M) l := by
  constructor
  · rintro ⟨h1, h2⟩
    refine ⟨fun l' => ?_, fun l' hl => ?_⟩
    · rw [← hg, ← hg]; exact h1 _
    · rw [← hg, ← hg]; exact h2 _ (show _ < l.val from hl)
  · rintro ⟨h1, h2⟩
    obtain ⟨l₁, hl₁⟩ := hh
    refine ⟨fun l' => ?_, fun l' hl => ?_⟩
    · rw [hg]
      by_cases h : l'.val < 500
      · rw [show l' = ⟨(⟨l'.val, h⟩ : Fin 500).val, by omega⟩ from rfl, hg]; exact h1 _
      · rw [hp l' (by omega)]
        refine le_trans ?_ (h1 l₁)
        rw [masked, if_pos hl₁]
        exact (neg_one_lt.trans hθ).le.trans hl₁.1
    · have h : l'.val < 500 := by have := l.isLt; simp only [Fin.lt_def] at hl; omega
      rw [show l' = ⟨(⟨l'.val, h⟩ : Fin 500).val, by omega⟩ from rfl, hg, hg]
      exact h2 _ (show _ < l.val from hl)

theorem has_lanes {θ : EReal} (hθ : 0 < θ) {x : Fin 500 → EReal} {L M : Fin 500 → Prop} (g : Fin 512 → EReal)
    (hg : ∀ l : Fin 500, g ⟨l.val, by omega⟩ = masked θ x L M l) (hp : ∀ l : Fin 512, 500 ≤ l.val → g l = -1)
    (b : EReal) (hb : b ≤ 0) : 0 < Finset.univ.fold max b g ↔ has θ x L M := by
  rw [Finset.lt_fold_max]
  constructor
  · rintro (h | ⟨l, -, h⟩)
    · exact absurd h (not_lt.mpr hb)
    · by_cases hl : l.val < 500
      · rw [show l = ⟨(⟨l.val, hl⟩ : Fin 500).val, by omega⟩ from rfl, hg, masked] at h
        split at h
        · exact ⟨_, ‹_›⟩
        · exact absurd h (not_lt.mpr neg_one_lt.le)
      · rw [hp l (by omega)] at h
        exact absurd h (not_lt.mpr neg_one_lt.le)
  · rintro ⟨l, hl⟩
    refine Or.inr ⟨⟨l.val, by omega⟩, Finset.mem_univ _, ?_⟩
    rw [hg, masked, if_pos hl]
    exact lt_of_lt_of_le hθ hl.1

/-- The least lane at which the row is greatest, as words. -/
theorem minsi_first (g : Fin 512 → EReal) (b : EReal) (hb : ∀ l, b ≤ g l) (l : Fin 512) :
    (BitVec.ofNat 32 l.val = Finset.univ.fold IntOp.minsi (2147483647#32)
      (fun y : Fin 512 => if g y = Finset.univ.fold max b g then BitVec.ofNat 32 y.val else 1024#32)) ↔ isFirst g l := by
  obtain ⟨hS, l₀, hl₀⟩ := fold_max_spec b g hb l
  generalize Finset.univ.fold max b g = S at *
  have hint : ∀ y : Fin 512, (BitVec.ofNat 32 y.val).toInt = (y.val : ℤ) := by
    intro y
    have := y.isLt
    have e : (BitVec.ofNat 32 y.val).toNat = y.val := by rw [BitVec.toNat_ofNat]; exact Nat.mod_eq_of_lt (by omega)
    rw [BitVec.toInt_eq_toNat_of_lt (by rw [e]; omega), e]
  set h : Fin 512 → BitVec 32 := fun y => if g y = S then BitVec.ofNat 32 y.val else 1024#32 with hh
  have hmin : ∀ a b : BitVec 32, (IntOp.minsi a b).toInt = min a.toInt b.toInt := by
    intro a b
    unfold IntOp.minsi
    simp only [BitVec.slt, decide_eq_true_eq]
    split <;> omega
  have hf : (Finset.univ.fold IntOp.minsi (2147483647#32) h).toInt
      = Finset.univ.fold min ((2147483647#32 : BitVec 32).toInt) (fun y => (h y).toInt) := by
    rw [← Finset.fold_hom (op := IntOp.minsi) (op' := min) (m := BitVec.toInt) hmin]
  have hle : ∀ y, (Finset.univ.fold IntOp.minsi (2147483647#32) h).toInt ≤ (h y).toInt := fun y => by
    rw [hf]; exact (Finset.fold_min_le _).mpr (Or.inr ⟨y, Finset.mem_univ y, le_rfl⟩)
  have hex : ∃ y, (Finset.univ.fold IntOp.minsi (2147483647#32) h).toInt = (h y).toInt := by
    rcases (Finset.fold_min_le (s := Finset.univ) (f := fun y => (h y).toInt) (b := (2147483647#32 : BitVec 32).toInt) _).mp le_rfl with h1 | ⟨y, -, h1⟩
    · exfalso
      have h2 := hle l₀
      rw [hf] at h2
      have h3 : (h l₀).toInt = (l₀.val : ℤ) := by rw [hh]; simp only; rw [if_pos hl₀.symm, hint]
      rw [h3] at h2
      have h4 : (2147483647#32 : BitVec 32).toInt = 2147483647 := by decide
      rw [h4] at h1 h2
      have := l₀.isLt
      omega
    · exact ⟨y, by apply le_antisymm (hle y); rw [hf]; exact h1⟩
  have h1024 : (1024#32 : BitVec 32).toInt = 1024 := by decide
  rw [← BitVec.toInt_inj, hint]
  constructor
  · intro e
    obtain ⟨y, hy⟩ := hex
    have hyl := hle
    rw [← e] at hy hyl
    have hgy : g y = S := by
      by_contra hc
      rw [hh] at hy; simp only at hy; rw [if_neg hc, h1024] at hy
      have := l.isLt; omega
    have hyl' : y = l := by
      rw [hh] at hy; simp only at hy; rw [if_pos hgy, hint] at hy
      exact Fin.ext (by omega)
    subst hyl'
    refine ⟨fun l' => hgy ▸ hS l', fun l' hl' => lt_of_le_of_ne (hgy ▸ hS l') fun hc => ?_⟩
    have h5 := hyl l'
    rw [hh] at h5; simp only at h5; rw [if_pos (hc.trans hgy), hint] at h5
    rw [Fin.lt_def] at hl'
    omega
  · rintro ⟨h1, h2⟩
    have hgl : g l = S := le_antisymm (hS l) (hl₀ ▸ h1 l₀)
    apply le_antisymm
    · obtain ⟨y, hy⟩ := hex
      rw [hy, hh]; simp only
      split
      · rename_i hgy
        rw [hint]
        by_contra hc
        have h6 := h2 y (by rw [Fin.lt_def]; omega)
        rw [hgy, hgl] at h6
        exact lt_irrefl _ h6
      · rw [h1024]; have := l.isLt; omega
    · refine (hle l).trans ?_
      rw [hh]; simp only; rw [if_pos hgl, hint]

end Cert.Spec

end
-- ==== Proof.Arrays.lean ====
/- Three array operations read at an index: a gather along an axis beside batch axes, a window that ends at its
   position along the last axis, and the range of a sorted family of positions. -/
module

public import Idealize.ShloMosaic.Lib.Pointwise
public import Idealize.ShloMosaic.Lib.ValueIdx
public import Idealize.ShloMosaic.Lib.SortFacts

@[expose] public section

noncomputable section

namespace Cert.Arrays

open Idealize.ShloMosaic

variable {α : Type}

theorem cases2 (b : Fin 2) : b = 0 ∨ b = 1 := by omega
theorem cases3 (b : Fin 3) : b = 0 ∨ b = 1 ∨ b = 2 := by omega

/-! ## Gathers -/

section Gather

variable {B N K D : ℕ}

/-- Rows of each batch's matrix picked by that batch's indices. -/
def rowDims (wf : GatherDims.WF ⟨3, ![B, N, D]⟩ ⟨3, ![B, K, 1]⟩ ⟨3, ![B, K, D]⟩ [2] [1] [0] [1] [0] 2 ![1, 1, D]) :
    GatherDims ⟨3, ![B, N, D]⟩ ⟨3, ![B, K, 1]⟩ ⟨3, ![B, K, D]⟩ where
  offsetDims := [2]
  collapsedSliceDims := [1]
  operandBatchingDims := [0]
  startIndicesBatchingDims := [0]
  startIndexMap := [1]
  indexVectorDim := 2
  sliceSizes := ![1, 1, D]
  wf := wf

theorem row_apply (hN : 0 < N)
    (wf : GatherDims.WF ⟨3, ![B, N, D]⟩ ⟨3, ![B, K, 1]⟩ ⟨3, ![B, K, D]⟩ [2] [1] [0] [1] [0] 2 ![1, 1, D])
    (x : (⟨3, ![B, N, D]⟩ : Shape).Idx → α) (idx : IVec ⟨3, ![B, K, 1]⟩ 32) (a : Fin B) (l : Fin K) (k : Fin D) :
    Host.gather (rowDims wf) x idx (ix3 a l k)
      = x (ix3 a ⟨min (idx (ix3 a l 0)).toInt.toNat (N - 1), by omega⟩ k) := by
  unfold Host.gather
  congr 1
  funext b
  refine Fin.ext ?_
  show (rowDims wf).start (ix3 a l k) idx b + (rowDims wf).batchCoord (ix3 a l k) b + (rowDims wf).offCoord (ix3 a l k) b = _
  rcases cases3 b with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowDims wf).operandBatchingDims from List.mem_singleton.mpr rfl)]
    rfl
  · rw [GatherDims.batchCoord_eq_zero _ _ _ (fun h => absurd (List.mem_singleton.mp h) (by simp [Fin.ext_iff])),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims wf).startIndexMap from List.mem_singleton.mpr rfl)]
    have hsi : (rowDims wf).siIdx (ix3 a l k) ⟨List.idxOf (1 : Fin 3) (rowDims wf).startIndexMap,
        List.idxOf_lt_length_iff.2 (List.mem_singleton.mpr rfl)⟩ = ix3 a l 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => absurd (List.mem_singleton.mp h) (by simp [Fin.ext_iff]))]
    unfold GatherDims.start
    rw [dif_neg (show ¬ (2 : Fin 3) ∈ (rowDims wf).startIndexMap from fun h => absurd (List.mem_singleton.mp h) (by simp [Fin.ext_iff]))]
    simp only [Nat.zero_add, Nat.add_zero]
    rfl

/-- One entry of each batch's vector per index. -/
def vecDims (wf : GatherDims.WF ⟨2, ![B, N]⟩ ⟨3, ![B, K, 1]⟩ ⟨2, ![B, K]⟩ [] [1] [0] [1] [0] 2 ![1, 1]) :
    GatherDims ⟨2, ![B, N]⟩ ⟨3, ![B, K, 1]⟩ ⟨2, ![B, K]⟩ where
  offsetDims := []
  collapsedSliceDims := [1]
  operandBatchingDims := [0]
  startIndicesBatchingDims := [0]
  startIndexMap := [1]
  indexVectorDim := 2
  sliceSizes := ![1, 1]
  wf := wf

theorem vec_apply (hN : 0 < N)
    (wf : GatherDims.WF ⟨2, ![B, N]⟩ ⟨3, ![B, K, 1]⟩ ⟨2, ![B, K]⟩ [] [1] [0] [1] [0] 2 ![1, 1])
    (x : (⟨2, ![B, N]⟩ : Shape).Idx → α) (idx : IVec ⟨3, ![B, K, 1]⟩ 32) (a : Fin B) (l : Fin K) :
    Host.gather (vecDims wf) x idx (ix2 a l)
      = x (ix2 a ⟨min (idx (ix3 a l 0)).toInt.toNat (N - 1), by omega⟩) := by
  unfold Host.gather
  congr 1
  funext b
  refine Fin.ext ?_
  show (vecDims wf).start (ix2 a l) idx b + (vecDims wf).batchCoord (ix2 a l) b + (vecDims wf).offCoord (ix2 a l) b = _
  rcases cases2 b with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (vecDims wf).operandBatchingDims from List.mem_singleton.mpr rfl)]
    rfl
  · rw [GatherDims.batchCoord_eq_zero _ _ _ (fun h => absurd (List.mem_singleton.mp h) (by simp [Fin.ext_iff])),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (vecDims wf).startIndexMap from List.mem_singleton.mpr rfl)]
    have hsi : (vecDims wf).siIdx (ix2 a l) ⟨List.idxOf (1 : Fin 2) (vecDims wf).startIndexMap,
        List.idxOf_lt_length_iff.2 (List.mem_singleton.mpr rfl)⟩ = ix3 a l 0 := by
      funext b; refine Fin.ext ?_
      match b with
      | ⟨0, _⟩ => rfl
      | ⟨1, _⟩ => rfl
      | ⟨2, _⟩ => rfl
    rw [hsi]
    rfl

variable {T : ℕ}

/-- One entry along the last axis per index, beside two batch axes. -/
def lastDims (wf : GatherDims.WF ⟨3, ![B, T, N]⟩ ⟨4, ![B, T, K, 1]⟩ ⟨3, ![B, T, K]⟩ [] [2] [0, 1] [2] [0, 1] 3 ![1, 1, 1]) :
    GatherDims ⟨3, ![B, T, N]⟩ ⟨4, ![B, T, K, 1]⟩ ⟨3, ![B, T, K]⟩ where
  offsetDims := []
  collapsedSliceDims := [2]
  operandBatchingDims := [0, 1]
  startIndicesBatchingDims := [0, 1]
  startIndexMap := [2]
  indexVectorDim := 3
  sliceSizes := ![1, 1, 1]
  wf := wf

theorem last_apply (hN : 0 < N)
    (wf : GatherDims.WF ⟨3, ![B, T, N]⟩ ⟨4, ![B, T, K, 1]⟩ ⟨3, ![B, T, K]⟩ [] [2] [0, 1] [2] [0, 1] 3 ![1, 1, 1])
    (x : (⟨3, ![B, T, N]⟩ : Shape).Idx → α) (idx : IVec ⟨4, ![B, T, K, 1]⟩ 32) (a : Fin B) (t : Fin T) (l : Fin K) :
    Host.gather (lastDims wf) x idx (ix3 a t l)
      = x (ix3 a t ⟨min (idx (ix4 a t l 0)).toInt.toNat (N - 1), by omega⟩) := by
  have m0 : (0 : Fin 3) ∈ (lastDims wf).operandBatchingDims := List.mem_cons_self
  have m1 : (1 : Fin 3) ∈ (lastDims wf).operandBatchingDims := List.mem_cons_of_mem _ List.mem_cons_self
  have n2 : (2 : Fin 3) ∉ (lastDims wf).operandBatchingDims := fun h => by
    rcases List.mem_cons.mp h with h | h
    · exact absurd (congrArg Fin.val h) (show ¬ (2 : ℕ) = 0 by decide)
    · exact absurd (congrArg Fin.val (List.mem_singleton.mp h)) (show ¬ (2 : ℕ) = 1 by decide)
  unfold Host.gather
  congr 1
  funext b
  refine Fin.ext ?_
  show (lastDims wf).start (ix3 a t l) idx b + (lastDims wf).batchCoord (ix3 a t l) b + (lastDims wf).offCoord (ix3 a t l) b = _
  rcases cases3 b with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ n2,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims wf).startIndexMap from List.mem_singleton.mpr rfl)]
    have hsi : (lastDims wf).siIdx (ix3 a t l) ⟨List.idxOf (2 : Fin 3) (lastDims wf).startIndexMap,
        List.idxOf_lt_length_iff.2 (List.mem_singleton.mpr rfl)⟩ = ix4 a t l 0 := by
      funext b; refine Fin.ext ?_
      match b with
      | ⟨0, _⟩ => rfl
      | ⟨1, _⟩ => rfl
      | ⟨2, _⟩ => rfl
      | ⟨3, _⟩ => rfl
    rw [hsi]
    rfl

end Gather

/-! ## A window that ends at its position -/

/-- A fold over `0 … N-1` whose entries are the unit before `N-1-k` and `y` shifted from there on. -/
theorem foldl_shift {N : ℕ} (f : α → α → α) (v : α) (hv : f v v = v) (y : ℕ → α) (k : ℕ) (hk : k < N) :
    (List.range N).foldl (fun r n => f r (if N - 1 ≤ k + n then y (k + n - (N - 1)) else v)) v
      = (List.range (k + 1)).foldl (fun r i => f r (y i)) v := by
  obtain ⟨d, rfl⟩ : ∃ d, N = d + (k + 1) := ⟨N - (k + 1), by omega⟩
  rw [List.range_add, List.foldl_append]
  have h1 : ∀ e ≤ d, (List.range e).foldl (fun r n => f r (if d + (k + 1) - 1 ≤ k + n then y (k + n - (d + (k + 1) - 1)) else v)) v = v := by
    intro e he
    induction e with
    | zero => rfl
    | succ e ih =>
      rw [List.range_succ, List.foldl_append, ih (by omega), List.foldl_cons, List.foldl_nil, if_neg (by omega), hv]
  rw [h1 d le_rfl, List.foldl_map]
  congr 1
  funext r i
  rw [if_pos (by omega)]
  congr 2
  omega

/-- A window of the whole last axis, padded low by one less: the fold of the entries up to the position. -/
theorem window_apply {B T N : ℕ} (f : α → α → α) (x : (⟨3, ![B, T, N]⟩ : Shape).Idx → α) {u : Shape} (init : u.Idx → α) (v : α)
    (L : ℕ) (hL : L = N - 1)
    (h : (⟨3, ![B, T, N]⟩ : Shape).ReduceWindows (![1, 1, N] : Fin 3 → ℕ) ![1, 1, 1] ![0, 0, L] ![0, 0, 0] ⟨3, ![B, T, N]⟩)
    (hu : 0 < u.numel) (hi : init (Shape.Idx.first hu) = v) (hv : f v v = v) (y : ℕ → α)
    (a : Fin B) (t : Fin T) (hy : ∀ i : Fin N, x (ix3 a t i) = y i.val) (k : Fin N) :
    Host.reduceWindow f ![1, 1, N] ![1, 1, 1] ![0, 0, L] ![0, 0, 0] x init h hu (ix3 a t k)
      = (List.range (k.val + 1)).foldl (fun r i => f r (y i)) v := by
  subst hL
  rw [← foldl_shift f v hv y k.val k.isLt]
  unfold Host.reduceWindow
  have hn : (⟨3, ![1, 1, N]⟩ : Shape).numel = N := by
    simp [Shape.numel, Fin.prod_univ_succ]
  have hW : ∀ n : Fin (⟨3, ![1, 1, N]⟩ : Shape).numel, (((⟨3, ![1, 1, N]⟩ : Shape).rowMajor.symm n) 2).val = n.val := by
    intro n
    have e := Shape.rowMajor_val_three ((⟨3, ![1, 1, N]⟩ : Shape).rowMajor.symm n)
    rw [Equiv.apply_symm_apply] at e
    have h0 : (((⟨3, ![1, 1, N]⟩ : Shape).rowMajor.symm n) 0).val = 0 := by
      have := (((⟨3, ![1, 1, N]⟩ : Shape).rowMajor.symm n) 0).isLt
      exact Nat.lt_one_iff.mp this
    have h1 : (((⟨3, ![1, 1, N]⟩ : Shape).rowMajor.symm n) 1).val = 0 := by
      have := (((⟨3, ![1, 1, N]⟩ : Shape).rowMajor.symm n) 1).isLt
      exact Nat.lt_one_iff.mp this
    rw [h0, h1] at e
    simpa using e.symm
  have h0 : ∀ n : Fin (⟨3, ![1, 1, N]⟩ : Shape).numel, (((⟨3, ![1, 1, N]⟩ : Shape).rowMajor.symm n) 0).val = 0 := fun n =>
    Nat.lt_one_iff.mp (((⟨3, ![1, 1, N]⟩ : Shape).rowMajor.symm n) 0).isLt
  have h1 : ∀ n : Fin (⟨3, ![1, 1, N]⟩ : Shape).numel, (((⟨3, ![1, 1, N]⟩ : Shape).rowMajor.symm n) 1).val = 0 := fun n =>
    Nat.lt_one_iff.mp (((⟨3, ![1, 1, N]⟩ : Shape).rowMajor.symm n) 1).isLt
  have hmap : List.range N = (List.finRange (⟨3, ![1, 1, N]⟩ : Shape).numel).map Fin.val := by
    rw [← List.map_coe_finRange_eq_range, hn]
  rw [hmap, List.foldl_map]
  dsimp only
  rw [hi]
  congr 1
  funext r n
  congr 1
  have hkn : n.val < N := lt_of_lt_of_eq n.isLt hn
  split
  · next hin =>
    have e := hin 2
    change N - 1 ≤ k.val * 1 + ((⟨3, ![1, 1, N]⟩ : Shape).rowMajor.symm n 2).val ∧ k.val * 1 + ((⟨3, ![1, 1, N]⟩ : Shape).rowMajor.symm n 2).val - (N - 1) < N at e
    rw [hW] at e
    rw [if_pos (by omega)]
    refine Eq.trans ?_ (hy ⟨k.val + n.val - (N - 1), by omega⟩)
    congr 1
    funext b
    refine Fin.ext ?_
    match b with
    | ⟨0, _⟩ =>
      show a.val * 1 + ((⟨3, ![1, 1, N]⟩ : Shape).rowMajor.symm n 0).val - 0 = a.val
      rw [h0]; omega
    | ⟨1, _⟩ =>
      show t.val * 1 + ((⟨3, ![1, 1, N]⟩ : Shape).rowMajor.symm n 1).val - 0 = t.val
      rw [h1]; omega
    | ⟨2, _⟩ =>
      show k.val * 1 + ((⟨3, ![1, 1, N]⟩ : Shape).rowMajor.symm n 2).val - (N - 1) = k.val + n.val - (N - 1)
      rw [hW]; omega
  · next hin =>
    rw [if_neg]
    intro hle
    apply hin
    intro b
    match b with
    | ⟨0, _⟩ =>
      show 0 ≤ a.val * 1 + ((⟨3, ![1, 1, N]⟩ : Shape).rowMajor.symm n 0).val ∧ a.val * 1 + ((⟨3, ![1, 1, N]⟩ : Shape).rowMajor.symm n 0).val - 0 < B
      rw [h0]; omega
    | ⟨1, _⟩ =>
      show 0 ≤ t.val * 1 + ((⟨3, ![1, 1, N]⟩ : Shape).rowMajor.symm n 1).val ∧ t.val * 1 + ((⟨3, ![1, 1, N]⟩ : Shape).rowMajor.symm n 1).val - 0 < T
      rw [h1]; omega
    | ⟨2, _⟩ =>
      show N - 1 ≤ k.val * 1 + ((⟨3, ![1, 1, N]⟩ : Shape).rowMajor.symm n 2).val ∧ k.val * 1 + ((⟨3, ![1, 1, N]⟩ : Shape).rowMajor.symm n 2).val - (N - 1) < N
      rw [hW]; omega

/-! ## Sorted positions -/

/-- Sorting a family of positions beside its keys leaves a position at every place. -/
theorem sort_range {B N : ℕ} {ι : Type} (cmp : ι × BitVec 32 → ι × BitVec 32 → BitVec 1) (x : (⟨2, ![B, N]⟩ : Shape).Idx → ι)
    (y : IVec ⟨2, ![B, N]⟩ 32) (hy : ∀ a i, y (ix2 a i) = BitVec.ofNat 32 i.val) (a : Fin B) (i : Fin N) :
    ∃ k : Fin N, (Host.sort2 ⟨2, ![B, N]⟩ 1 cmp x y).2 (ix2 a i) = BitVec.ofNat 32 k.val := by
  rw [congrFun (congrArg Prod.snd (Host.sort2_eq_sortBy _ 1 cmp x y)) (ix2 a i)]
  dsimp only
  unfold Host.sortBy
  rw [dif_pos (show 1 < (⟨2, ![B, N]⟩ : Shape).rank from Nat.lt_succ_self 1)]
  dsimp only
  generalize sortedFrom _ _ = k
  refine ⟨k, Eq.trans (congrArg y ?_) (hy a k)⟩
  funext b
  match b with
  | ⟨0, _⟩ => rfl
  | ⟨1, _⟩ => rfl

end Cert.Arrays

end
-- ==== Proof.Model.lean ====
/- The inputs of the matching as both programs compute them: the order of the predictions, the overlap of two boxes, and
   for each camera and prediction the row of overlaps and of equal labels. -/
module

public import proofs.«01_k».proof.Proof.Spec
public import proofs.«01_k».proof.Proof.Arrays
public import proofs.«01_k».proof.KernelIdeal

@[expose] public section

noncomputable section

namespace Cert.Model

open Idealize.ShloMosaic Classical

/-! ## Constants -/

theorem half_eq : Ideal.ofBits .f32 1056964608#32 = ((1 / 2 : ℝ) : EReal) := by
  simp only [Ideal.ofBits, Ideal.ieee]; simp; rw [← EReal.coe_mul, EReal.coe_eq_coe_iff]; norm_num
theorem neg_one_eq : Ideal.ofBits .f32 3212836864#32 = (-1 : EReal) := by
  rw [show (-1 : EReal) = ((-1 : ℝ) : EReal) from by simp]
  simp only [Ideal.ofBits, Ideal.ieee]; simp; rw [← EReal.coe_mul, ← EReal.coe_one, EReal.coe_eq_coe_iff]; norm_num
theorem neg_inf_eq : Ideal.ofBits .f32 4286578688#32 = (⊥ : EReal) := by
  simp [Ideal.ofBits, Ideal.ieee]
theorem zero_lit : Ideal.ofBits .f32 0#32 = 0 := by
  simp only [Ideal.ofBits, Ideal.ieee]; simp

theorem one_eq : Ideal.ofBits .f32 1065353216#32 = (1 : EReal) := by
  rw [← EReal.coe_one]
  simp only [Ideal.ofBits, Ideal.ieee]; simp; rw [← EReal.coe_mul, ← EReal.coe_one, EReal.coe_eq_coe_iff]; norm_num
theorem five_hundred_eq : Ideal.ofBits .f32 1140457472#32 = ((500 : ℝ) : EReal) := by
  simp only [Ideal.ofBits, Ideal.ieee]; simp; rw [← EReal.coe_mul, EReal.coe_eq_coe_iff]; norm_num
theorem tiny_pos : (0 : EReal) < Ideal.ofBits .f32 814313567#32 := by
  simp only [Ideal.ofBits, Ideal.ieee]; simp; rw [← EReal.coe_mul, ← EReal.coe_zero, EReal.coe_lt_coe_iff]; norm_num
theorem tiny_lt : Ideal.ofBits .f32 814313567#32 < ((1 : ℝ) : EReal) := by
  simp only [Ideal.ofBits, Ideal.ieee]; simp; rw [← EReal.coe_mul, ← EReal.coe_one, EReal.coe_lt_coe_iff]; norm_num
theorem step_pos : (0 : EReal) < Ideal.ofBits .f32 1028443341#32 := by
  simp only [Ideal.ofBits, Ideal.ieee]; simp; rw [← EReal.coe_mul, ← EReal.coe_zero, EReal.coe_lt_coe_iff]; norm_num

/-! ## Overlap -/

/-- The overlap of two boxes: the area they share over the area they cover. -/
def iou (b t : Fin 4 → EReal) : EReal :=
  Ideal.div (max 0 (min (b 2) (t 2) - max (b 0) (t 0)) * max 0 (min (b 3) (t 3) - max (b 1) (t 1)))
    (max ((b 2 - b 0) * (b 3 - b 1) + (t 2 - t 0) * (t 3 - t 1)
        - max 0 (min (b 2) (t 2) - max (b 0) (t 0)) * max 0 (min (b 3) (t 3) - max (b 1) (t 1)))
      (Ideal.ofBits .f32 814313567#32))

/-- A box shares nothing with the empty box at the origin. -/
theorem iou_empty (b : Fin 4 → EReal) : iou b (fun _ => 0) = 0 := by
  unfold iou
  have h : max 0 (min (b 2) 0 - max (b 0) 0) = (0 : EReal) := by
    apply max_eq_left
    have h1 : min (b 2) 0 ≤ 0 := min_le_right _ _
    have h2 : (0 : EReal) ≤ max (b 0) 0 := le_max_right _ _
    calc min (b 2) 0 - max (b 0) 0 ≤ 0 - 0 := EReal.sub_le_sub h1 h2
      _ = 0 := by simp
  dsimp only
  rw [h, zero_mul]
  unfold Ideal.div
  rw [if_neg (ne_of_gt (lt_of_lt_of_le tiny_pos (le_max_right _ _))), zero_mul]

/-! ## The order of the predictions -/

abbrev A2 : Shape := ⟨2, ![3, 2000]⟩

/-- Each camera's positions sorted by falling score. -/
def order (s : FVec Ideal A2 .f32) : IVec A2 32 :=
  (Host.sort2 A2 1 Cert.KernelIdeal.comparator_f32_i32_d1 (Host.negf s) (iotaInDim A2 32 1)).2

theorem order_range (s : FVec Ideal A2 .f32) (a : Fin 3) (i : Fin 2000) :
    ∃ k : Fin 2000, order s (ix2 a i) = BitVec.ofNat 32 k.val :=
  Cert.Arrays.sort_range _ _ _ (fun _ _ => rfl) a i

/-- The prediction at place `i`. -/
def pos (s : FVec Ideal A2 .f32) (a : Fin 3) (i : Fin 2000) : Fin 2000 := (order_range s a i).choose
theorem order_eq (s : FVec Ideal A2 .f32) (a : Fin 3) (i : Fin 2000) : order s (ix2 a i) = BitVec.ofNat 32 (pos s a i).val :=
  (order_range s a i).choose_spec

/-- Counting a position back from the end where it is negative changes none of them. -/
theorem wrap_eq (k : Fin 2000) (w : BitVec 32) :
    Scalar.select (IntOp.cmpi .slt (BitVec.ofNat 32 k.val) 0#32) w (BitVec.ofNat 32 k.val) = BitVec.ofNat 32 k.val := by
  have : ∀ k : Fin 2000, IntOp.cmpi .slt (BitVec.ofNat 32 k.val) 0#32 = 0#1 := by decide +kernel
  rw [this]
  rfl
theorem inside_eq (k : Fin 2000) :
    IntOp.andi (IntOp.cmpi .sge (BitVec.ofNat 32 k.val) 0#32) (IntOp.cmpi .sle (BitVec.ofNat 32 k.val) 1999#32) = 1#1 := by
  revert k; decide +kernel
theorem toNat_eq (k : Fin 2000) : min (BitVec.ofNat 32 k.val).toInt.toNat (2000 - 1) = k.val := by
  have h : (BitVec.ofNat 32 k.val).toNat = k.val := by
    rw [BitVec.toNat_ofNat]; exact Nat.mod_eq_of_lt (by have := k.isLt; omega)
  rw [BitVec.toInt_eq_toNat_of_lt (by rw [h]; have := k.isLt; omega), h, Int.toNat_natCast]
  have := k.isLt; omega

/-! ## The rows of a camera -/

/-- A row read at a place whose word is known. -/
theorem row_at {V : Type} {K : ℕ} (wf) (x : Shape.Idx ⟨3, ![3, 2000, K]⟩ → V) (idx : IVec ⟨3, ![3, 2000, 1]⟩ 32) (a : Fin 3) (l : Fin 2000)
    (k : Fin K) (p : Fin 2000) (h : idx (ix3 a l 0) = BitVec.ofNat 32 p.val) :
    Host.gather (Cert.Arrays.rowDims wf) x idx (ix3 a l k) = x (ix3 a p k) := by
  refine (Cert.Arrays.row_apply (by decide) wf x idx a l k).trans (congrArg (fun p => x (ix3 a p k)) (Fin.ext ?_))
  show min (idx (ix3 a l 0)).toInt.toNat (2000 - 1) = _
  rw [h, toNat_eq]

/-- An entry read at a place whose word is known. -/
theorem vec_at {V : Type} (wf) (x : Shape.Idx ⟨2, ![3, 2000]⟩ → V) (idx : IVec ⟨3, ![3, 2000, 1]⟩ 32) (a : Fin 3) (l : Fin 2000)
    (p : Fin 2000) (h : idx (ix3 a l 0) = BitVec.ofNat 32 p.val) :
    Host.gather (Cert.Arrays.vecDims wf) x idx (ix2 a l) = x (ix2 a p) := by
  refine (Cert.Arrays.vec_apply (by decide) wf x idx a l).trans (congrArg (fun p => x (ix2 a p)) (Fin.ext ?_))
  show min (idx (ix3 a l 0)).toInt.toNat (2000 - 1) = _
  rw [h, toNat_eq]

section Rows

variable (a0 : FVec Ideal ⟨3, ![3, 2000, 4]⟩ .f32) (a1 : FVec Ideal A2 .f32) (a2 : IVec A2 32)
  (a3 : FVec Ideal ⟨3, ![3, 500, 4]⟩ .f32) (a4 : IVec ⟨2, ![3, 500]⟩ 32)

/-- The overlaps of the prediction at place `i` with the targets. -/
def row (c : Fin 3) (i : ℕ) (l : Fin 500) : EReal :=
  if h : i < 2000 then iou (fun k => a0 (ix3 c (pos a1 c ⟨i, h⟩) k)) (fun k => a3 (ix3 c l k)) else 0
/-- The targets of its label. -/
def lab (c : Fin 3) (i : ℕ) (l : Fin 500) : Prop :=
  ∃ h : i < 2000, a2 (ix2 c (pos a1 c ⟨i, h⟩)) = a4 (ix2 c l)

end Rows

/-- The thresholds of the overlap. -/
def thr (t : ℕ) : EReal := Ideal.ofBits .f32 1056964608#32 + Ideal.ofBits .f32 1028443341#32 * FloatOps.sitofp (F := Ideal) .f32 (BitVec.ofNat 32 t)

/-- The thresholds of the recall: evenly spaced over `[0, 1]`, the last one exact. -/
def recThr (t : ℕ) : EReal :=
  if t < 100 then
    Ideal.ofBits .f32 0#32 * (1 - Ideal.div (FloatOps.sitofp (F := Ideal) .f32 (BitVec.ofNat 32 t)) (Ideal.ofBits .f32 1120403456#32))
      + Ideal.ofBits .f32 1065353216#32 * Ideal.div (FloatOps.sitofp (F := Ideal) .f32 (BitVec.ofNat 32 t)) (Ideal.ofBits .f32 1120403456#32)
  else Ideal.ofBits .f32 1065353216#32

theorem thr_pos (t : Fin 16) : 0 < thr t.val := by
  unfold thr
  have h : (0 : EReal) ≤ FloatOps.sitofp (F := Ideal) .f32 (BitVec.ofNat 32 t.val) := by
    have h2 : 0 ≤ (BitVec.ofNat 32 t.val).toInt := by revert t; decide
    show (0 : EReal) ≤ (((BitVec.ofNat 32 t.val).toInt : ℝ) : EReal)
    exact_mod_cast h2
  refine lt_of_lt_of_le (b := Ideal.ofBits .f32 1056964608#32) ?_ ?_
  · rw [half_eq]; exact_mod_cast (by norm_num : (0 : ℝ) < 1 / 2)
  · exact le_add_of_nonneg_right (mul_nonneg step_pos.le h)

end Cert.Model

end
-- ==== Proof.Result.lean ====
/- The result both programs compute, of the arguments. -/
module

public import proofs.«01_k».proof.Proof.Model
public import proofs.«01_k».proof.Proof.Spec

@[expose] public section

noncomputable section

namespace Cert.Model

open Cert.Spec
open Idealize.ShloMosaic Idealize.ShloMosaic.TcCoe Idealize.ShloMosaic.Tactic

/-- A camera's mean, over the thresholds of the overlap and of the recall, of the best precision at that recall. -/
def score (a0 : Shape.Idx ⟨3, ![3, 2000, 4]⟩ → EReal) (a1 : FVec Ideal A2 .f32) (a2 : Shape.Idx ⟨2, ![3, 2000]⟩ → BitVec 32)
    (a3 : Shape.Idx ⟨3, ![3, 500, 4]⟩ → EReal) (a4 : Shape.Idx ⟨2, ![3, 500]⟩ → BitVec 32) (a : Fin 3) : EReal :=
  Ideal.div (∑ t : Fin 10, ∑ r : Fin 101, env (thr t.val) (row a0 a1 a3 a) (lab a1 a2 a4 a) (recThr r.val) 2000)
    (Ideal.ofBits .f32 1149009920#32)

end Cert.Model

end
-- ==== Proof.KernelIdeal.Inputs.lean ====
/- What the kernel's host operations leave in the arrays the pallas_call reads: the boxes and labels of the predictions
   in their order, the targets transposed and padded, and the thresholds padded. -/
module

public import proofs.«01_k».proof.Proof.Model
public import proofs.«01_k».proof.Proof.KernelIdeal.Run
public import Idealize.ShloMosaic.Lib.StableHlo.ReadAt

@[expose] public section

set_option maxHeartbeats 1000000

noncomputable section

namespace Cert.KernelIdeal.Kit

open Cert.KernelIdeal.Gen Cert.Model
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

/-! The arguments. -/
abbrev x0 : FVec Ideal S3x2000x4 .f32 := m (c, Proc.tc.devRef main_arg0)
abbrev x1 : FVec Ideal S3x2000 .f32 := m (c, Proc.tc.devRef main_arg1)
abbrev x2 : IVec S3x2000 32 := m (c, Proc.tc.devRef main_arg2)
abbrev x3 : FVec Ideal S3x500x4 .f32 := m (c, Proc.tc.devRef main_arg3)
abbrev x4 : IVec S3x500 32 := m (c, Proc.tc.devRef main_arg4)

theorem tbt_eq (a : Fin 3) (k : Fin 4) (l : Fin 512) :
    ((V m c main_call0_v7 : FVec Ideal S3x4x512 .f32) (ix3 a k l) : EReal)
      = if h : l.val < 500 then x3 m c (ix3 a ⟨l.val, h⟩ k) else 0 := by
  simp only [V, V0, List.flatten_cons, List.flatten_nil, List.append_nil]
  after_reads_at
  split
  · rfl
  · show (((0#32 : BitVec 32).toInt : ℝ) : EReal) = 0
    simp

theorem tlab_eq (a : Fin 3) (l : Fin 512) :
    ((V m c main_call0_v9 : IVec S3x1x512 32) (ix3 a 0 l) : BitVec 32)
      = if h : l.val < 500 then x4 m c (ix2 a ⟨l.val, h⟩) else 4294967295#32 := by
  simp only [V, V0, List.flatten_cons, List.flatten_nil, List.append_nil]
  after_reads_at
  rfl

theorem thr_eq (t : Fin 16) (ht : t.val < 10) :
    ((V m c main_call0_v16 : FVec Ideal S1x16x1 .f32) (ix3 0 t 0) : EReal) = thr t.val := by
  simp only [V, V0, List.flatten_cons, List.flatten_nil, List.append_nil]
  after_reads_at
  rw [dif_pos ht]
  rfl

/-- The kernel's words for the order, with positions counted back from the end where negative. -/
theorem words_eq (a : Fin 3) (l : Fin 2000) (w : BitVec 32) :
    Scalar.select (IntOp.cmpi .slt ((Host.sort2 S3x2000 1 comparator_f32_i32_d1 (Host.negf (x1 m c)) (iotaInDim S3x2000 32 1)).2 (ix2 a l)) 0#32) w
      ((Host.sort2 S3x2000 1 comparator_f32_i32_d1 (Host.negf (x1 m c)) (iotaInDim S3x2000 32 1)).2 (ix2 a l))
      = BitVec.ofNat 32 (pos (x1 m c) a l).val := by
  have h : (Host.sort2 S3x2000 1 comparator_f32_i32_d1 (Host.negf (x1 m c)) (iotaInDim S3x2000 32 1)).2 (ix2 a l)
      = BitVec.ofNat 32 (pos (x1 m c) a l).val := order_eq (x1 m c) a l
  rw [h]
  exact wrap_eq _ _

/-- None of them lies outside. -/
theorem guard_eq (a : Fin 3) (l : Fin 2000) (w : BitVec 32) (g : Fin 1 → BitVec 1)
    (hg : g = fun _ => IntOp.andi (IntOp.cmpi .sge w 0#32) (IntOp.cmpi .sle w 1999#32)) (hw : w = BitVec.ofNat 32 (pos (x1 m c) a l).val) :
    Finset.fold IntOp.andi (1#1) g Finset.univ = 1#1 := by
  subst hg hw
  rw [show (Finset.univ : Finset (Fin 1)) = {0} from rfl, Finset.fold_singleton, inside_eq]
  rfl

theorem select_one {V : Type} (A B : V) : Scalar.select 1#1 A B = A := rfl

theorem col_apply {V : Type} (h) (y : Shape.Idx S3x2000 → V) (a : Fin 3) (l : Fin 2000) :
    broadcastInDim S3x2000x1 ![0, 1] h y (ix3 a l 0) = y (ix2 a l) := by
  refine congrArg y (funext fun b => ?_)
  match b with
  | ⟨0, _⟩ => rfl
  | ⟨1, _⟩ => rfl

/-- The same of the column of words. -/
theorem words_col (a : Fin 3) (l : Fin 2000) (w : BitVec 32) :
    Scalar.select (IntOp.cmpi .slt (broadcastInDim S3x2000x1 ![0, 1] bcast_S3x2000_S3x2000x1_0_1
        (Host.sort2 S3x2000 1 comparator_f32_i32_d1 (Host.negf (x1 m c)) (iotaInDim S3x2000 32 1)).2 (ix3 a l 0)) 0#32) w
      (broadcastInDim S3x2000x1 ![0, 1] bcast_S3x2000_S3x2000x1_0_1
        (Host.sort2 S3x2000 1 comparator_f32_i32_d1 (Host.negf (x1 m c)) (iotaInDim S3x2000 32 1)).2 (ix3 a l 0))
      = BitVec.ofNat 32 (pos (x1 m c) a l).val := by
  rw [col_apply]
  exact words_eq m c a l w

theorem pb_eq (a : Fin 3) (l : Fin 2000) (k : Fin 4) :
    ((V m c main_call0_v3 : FVec Ideal S3x2000x4 .f32) (ix3 a l k) : EReal) = x0 m c (ix3 a (pos (x1 m c) a l) k) := by
  simp only [V, V0, List.flatten_cons, List.flatten_nil, List.append_nil]
  after_reads_at
  refine (congrArg (fun b => Scalar.select b _ _) (guard_eq m c a l _ _ rfl (words_eq m c a l _))).trans ((select_one _ _).trans ?_)
  refine row_at (K := 4) gather_S3x2000x4_S3x2000x1_S3x2000x4_2_1_0_0_1_2_114_wf (x0 m c) _ a l k _ ?_
  exact words_col m c a l _

theorem plab_eq (a : Fin 3) (l : Fin 2000) :
    ((V m c main_call0_v5 : IVec S3x2000x1 32) (ix3 a l 0) : BitVec 32) = x2 m c (ix2 a (pos (x1 m c) a l)) := by
  simp only [V, V0, List.flatten_cons, List.flatten_nil, List.append_nil]
  after_reads_at
  refine (congrArg (fun b => Scalar.select b _ _) (guard_eq m c a l _ _ rfl (words_eq m c a l _))).trans ((select_one _ _).trans ?_)
  exact vec_at gather_S3x2000_S3x2000x1_S3x2000_n_1_0_0_1_2_11_wf (x2 m c) _ a l _ (words_eq m c a l _)

theorem rec_eq (t : Fin 128) (ht : t.val < 101) :
    ((V m c main_call0_v19 : FVec Ideal S1x1x128 .f32) (ix3 0 0 t) : EReal) = recThr t.val := by
  simp only [V, V0, List.flatten_cons, List.flatten_nil, List.append_nil]
  after_reads_at
  rw [dif_pos ht]
  by_cases h : t.val < 100
  · rw [dif_pos h]
    after_reads_at
    exact (if_pos h).symm
  · rw [dif_neg h]
    after_reads_at
    exact (if_neg h).symm

end Cert.KernelIdeal.Kit

end
-- ==== Proof.KernelIdeal.Rows.lean ====
/- The rows of overlaps a point's 200 matching steps read: what the point's blocks hold, from the launch's arrays. -/
module

public import proofs.«01_k».proof.Proof.KernelIdeal.Inputs
import Idealize.ShloMosaic.Lib.WholeRead

@[expose] public section

set_option maxHeartbeats 1000000
set_option maxRecDepth 16384

noncomputable section

namespace Cert.KernelIdeal.Kit

open Cert.KernelIdeal.Gen Cert.Model
open Idealize.ShloMosaic Idealize.ShloMosaic.TcCoe Idealize.ShloMosaic.Tactic
open Idealize.SL Idealize.SL.Sem

variable (m : (ℓ : Loc nD τ sig) → Buf (Elt Ideal) ℓ) (c : Dev nD)

/-! ## A point's blocks -/

theorem blk0 (t : Fin cfg0.N) (ht : t.val < 10) (a : Fin 3) (j : Fin 200) (k : Fin 4) :
    (iblk m c 0 t : FVec Ideal S3x200x4 .f32) (ix3 a j k)
      = (V m c main_call0_v3 : FVec Ideal S3x2000x4 .f32) (ix3 a ⟨200 * t.val + j.val, by omega⟩ k) := by
  have hi : win0_0.index t 0 = 0 ∧ win0_0.index t 1 = t.val ∧ win0_0.index t 2 = 0 := by revert t; decide
  unfold iblk
  rw [View.read_apply]
  show V m c main_call0_v3 _ = V m c main_call0_v3 _
  congr 1
  funext b
  apply Fin.ext
  match b with
  | ⟨0, _⟩ => show win0_0.index t 0 * 3 + 1 * a.val = a.val; rw [hi.1]; omega
  | ⟨1, _⟩ => show win0_0.index t 1 * 200 + 1 * j.val = 200 * t.val + j.val; rw [hi.2.1]; omega
  | ⟨2, _⟩ => show win0_0.index t 2 * 4 + 1 * k.val = k.val; rw [hi.2.2]; omega

theorem blk1 (t : Fin cfg0.N) (ht : t.val < 10) (a : Fin 3) (j : Fin 200) :
    (iblk m c 1 t : IVec S3x200x1 32) (ix3 a j 0)
      = (V m c main_call0_v5 : IVec S3x2000x1 32) (ix3 a ⟨200 * t.val + j.val, by omega⟩ 0) := by
  have hi : win0_1.index t 0 = 0 ∧ win0_1.index t 1 = t.val ∧ win0_1.index t 2 = 0 := by revert t; decide
  unfold iblk
  rw [View.read_apply]
  show V m c main_call0_v5 _ = V m c main_call0_v5 _
  congr 1
  funext b
  apply Fin.ext
  match b with
  | ⟨0, _⟩ => show win0_1.index t 0 * 3 + 1 * a.val = a.val; rw [hi.1]; omega
  | ⟨1, _⟩ => show win0_1.index t 1 * 200 + 1 * j.val = 200 * t.val + j.val; rw [hi.2.1]; omega
  | ⟨2, _⟩ => show win0_1.index t 2 * 1 + 1 * 0 = 0; rw [hi.2.2]

theorem blk2 (t : Fin cfg0.N) (y : S3x4x512.Idx) :
    (iblk m c 2 t : FVec Ideal S3x4x512 .f32) y = (V m c main_call0_v7 : FVec Ideal S3x4x512 .f32) y := by
  have hi : win0_2.index t 0 = 0 ∧ win0_2.index t 1 = 0 ∧ win0_2.index t 2 = 0 := by revert t; decide
  unfold iblk
  rw [View.read_apply]
  show V m c main_call0_v7 _ = V m c main_call0_v7 _
  congr 1
  funext b
  apply Fin.ext
  match b with
  | ⟨0, _⟩ => show win0_2.index t 0 * 3 + 1 * (y 0).val = (y 0).val; rw [hi.1]; omega
  | ⟨1, _⟩ => show win0_2.index t 1 * 4 + 1 * (y 1).val = (y 1).val; rw [hi.2.1]; omega
  | ⟨2, _⟩ => show win0_2.index t 2 * 512 + 1 * (y 2).val = (y 2).val; rw [hi.2.2]; omega

theorem blk3 (t : Fin cfg0.N) (y : S3x1x512.Idx) :
    (iblk m c 3 t : IVec S3x1x512 32) y = (V m c main_call0_v9 : IVec S3x1x512 32) y := by
  have hi : win0_3.index t 0 = 0 ∧ win0_3.index t 1 = 0 ∧ win0_3.index t 2 = 0 := by revert t; decide
  unfold iblk
  rw [View.read_apply]
  show V m c main_call0_v9 _ = V m c main_call0_v9 _
  congr 1
  funext b
  apply Fin.ext
  match b with
  | ⟨0, _⟩ => show win0_3.index t 0 * 3 + 1 * (y 0).val = (y 0).val; rw [hi.1]; omega
  | ⟨1, _⟩ => show win0_3.index t 1 * 1 + 1 * (y 1).val = (y 1).val; rw [hi.2.1]; omega
  | ⟨2, _⟩ => show win0_3.index t 2 * 512 + 1 * (y 2).val = (y 2).val; rw [hi.2.2]; omega

theorem blk4 (t : Fin cfg0.N) (y : S1x16x1.Idx) :
    (iblk m c 4 t : FVec Ideal S1x16x1 .f32) y = (V m c main_call0_v16 : FVec Ideal S1x16x1 .f32) y := by
  have hi : win0_4.index t 0 = 0 ∧ win0_4.index t 1 = 0 ∧ win0_4.index t 2 = 0 := by revert t; decide
  unfold iblk
  rw [View.read_apply]
  show V m c main_call0_v16 _ = V m c main_call0_v16 _
  congr 1
  funext b
  apply Fin.ext
  match b with
  | ⟨0, _⟩ => show win0_4.index t 0 * 1 + 1 * (y 0).val = (y 0).val; rw [hi.1]; omega
  | ⟨1, _⟩ => show win0_4.index t 1 * 16 + 1 * (y 1).val = (y 1).val; rw [hi.2.1]; omega
  | ⟨2, _⟩ => show win0_4.index t 2 * 1 + 1 * (y 2).val = (y 2).val; rw [hi.2.2]; omega

theorem blk5 (t : Fin cfg0.N) (y : S1x1x128.Idx) :
    (iblk m c 5 t : FVec Ideal S1x1x128 .f32) y = (V m c main_call0_v19 : FVec Ideal S1x1x128 .f32) y := by
  have hi : win0_5.index t 0 = 0 ∧ win0_5.index t 1 = 0 ∧ win0_5.index t 2 = 0 := by revert t; decide
  unfold iblk
  rw [View.read_apply]
  show V m c main_call0_v19 _ = V m c main_call0_v19 _
  congr 1
  funext b
  apply Fin.ext
  match b with
  | ⟨0, _⟩ => show win0_5.index t 0 * 1 + 1 * (y 0).val = (y 0).val; rw [hi.1]; omega
  | ⟨1, _⟩ => show win0_5.index t 1 * 1 + 1 * (y 1).val = (y 1).val; rw [hi.2.1]; omega
  | ⟨2, _⟩ => show win0_5.index t 2 * 128 + 1 * (y 2).val = (y 2).val; rw [hi.2.2]; omega

/-! ## What the body loads of them -/

section Loads

variable {sA sL sB sT : Space}
variable (g1 : Memref sig .tc .vmem S3x200x4 .f32) (h1 : g1.IsWhole) (X1 : FVec Ideal S3x200x4 .f32)
variable (g2 : Memref sig .tc .vmem S3x200x1 .i32) (h2 : g2.IsWhole) (X2 : IVec S3x200x1 32)
variable (g3 : Memref sig .tc .vmem S3x4x512 .f32) (h3 : g3.IsWhole) (X3 : FVec Ideal S3x4x512 .f32)
variable (g4 : Memref sig .tc .vmem S3x1x512 .i32) (h4 : g4.IsWhole) (X4 : IVec S3x1x512 32)

theorem ldA_at (a k : ℕ) (ha : a < 3) (hk : k < 4) (h) (j : Fin 200) :
    ldA (F := Ideal) c g1 (h1.unread X1) ![a, 0, k] h (ix3 0 j 0) = X1 (ix3 ⟨a, ha⟩ j ⟨k, hk⟩) := by
  refine (h1.readAt_unread (Val := Elt Ideal) X1 _ _).trans (congrArg X1 (funext fun b => Fin.ext ?_))
  match b with
  | ⟨0, _⟩ => show a + 1 * 0 = a; omega
  | ⟨1, _⟩ => show 0 + 1 * j.val = j.val; omega
  | ⟨2, _⟩ => show k + 1 * 0 = k; omega

theorem ldL_at (a : ℕ) (ha : a < 3) (h) (j : Fin 200) :
    ldL (F := Ideal) c g2 (h2.unread X2) ![a, 0, 0] h (ix3 0 j 0) = X2 (ix3 ⟨a, ha⟩ j 0) := by
  refine (h2.readAt_unread (Val := Elt Ideal) X2 _ _).trans (congrArg X2 (funext fun b => Fin.ext ?_))
  match b with
  | ⟨0, _⟩ => show a + 1 * 0 = a; omega
  | ⟨1, _⟩ => show 0 + 1 * j.val = j.val; omega
  | ⟨2, _⟩ => rfl

theorem ldB_at (a k : ℕ) (ha : a < 3) (hk : k < 4) (h) (l : Fin 512) :
    ldB (F := Ideal) c g3 (h3.unread X3) ![a, k, 0] h (ix3 0 0 l) = X3 (ix3 ⟨a, ha⟩ ⟨k, hk⟩ l) := by
  refine (h3.readAt_unread (Val := Elt Ideal) X3 _ _).trans (congrArg X3 (funext fun b => Fin.ext ?_))
  match b with
  | ⟨0, _⟩ => show a + 1 * 0 = a; omega
  | ⟨1, _⟩ => show k + 1 * 0 = k; omega
  | ⟨2, _⟩ => show 0 + 1 * l.val = l.val; omega

theorem ldT_at (a : ℕ) (ha : a < 3) (h) (l : Fin 512) :
    ldT (F := Ideal) c g4 (h4.unread X4) ![a, 0, 0] h (ix3 0 0 l) = X4 (ix3 ⟨a, ha⟩ 0 l) := by
  refine (h4.readAt_unread (Val := Elt Ideal) X4 _ _).trans (congrArg X4 (funext fun b => Fin.ext ?_))
  match b with
  | ⟨0, _⟩ => show a + 1 * 0 = a; omega
  | ⟨1, _⟩ => rfl
  | ⟨2, _⟩ => show 0 + 1 * l.val = l.val; omega

/-- A camera's overlaps with the targets of the same label, −1 elsewhere. -/
def cell (a : Fin 3) (j : Fin 200) (l : Fin 512) : EReal :=
  Scalar.select (IntOp.cmpi .eq (X2 (ix3 a j 0)) (X4 (ix3 a 0 l))) (iou (fun k => X1 (ix3 a j k)) (fun k => X3 (ix3 a k l)))
    (Ideal.ofBits .f32 3212836864#32)

theorem cell_of (v0 v1 v2 v3 : Vec Ideal S1x200x1 .f32) (b0 b1 b2 b3 : Vec Ideal S1x1x512 .f32) (l : Vec Ideal S1x200x1 .i32)
    (t : Vec Ideal S1x1x512 .i32) (a : Fin 3) (j : Fin 200) (y : Fin 512) (hl : l (ix3 0 j 0) = X2 (ix3 a j 0)) (ht : t (ix3 0 0 y) = X4 (ix3 a 0 y))
    (w0 : v0 (ix3 0 j 0) = X1 (ix3 a j 0)) (w1 : v1 (ix3 0 j 0) = X1 (ix3 a j 1)) (w2 : v2 (ix3 0 j 0) = X1 (ix3 a j 2))
    (w3 : v3 (ix3 0 j 0) = X1 (ix3 a j 3)) (u0 : b0 (ix3 0 0 y) = X3 (ix3 a 0 y)) (u1 : b1 (ix3 0 0 y) = X3 (ix3 a 1 y))
    (u2 : b2 (ix3 0 0 y) = X3 (ix3 a 2 y)) (u3 : b3 (ix3 0 0 y) = X3 (ix3 a 3 y)) :
    Scalar.select (IntOp.cmpi .eq (l (ix3 0 j 0)) (t (ix3 0 0 y)))
      (iou ![v0 (ix3 0 j 0), v1 (ix3 0 j 0), v2 (ix3 0 j 0), v3 (ix3 0 j 0)] ![b0 (ix3 0 0 y), b1 (ix3 0 0 y), b2 (ix3 0 0 y), b3 (ix3 0 0 y)])
      (Ideal.ofBits .f32 3212836864#32) = cell X1 X2 X3 X4 a j y := by
  rw [hl, ht, w0, w1, w2, w3, u0, u1, u2, u3]
  rfl

theorem iou0_at (v0 v1 v2 v3 : Vec Ideal S1x200x1 .f32) (b0 b1 b2 b3 : Vec Ideal S1x1x512 .f32) (l : Vec Ideal S1x200x1 .i32)
    (t : Vec Ideal S1x1x512 .i32) (j : Fin 200) (y : Fin 512) :
    (iou0 v0 v1 v2 v3 b0 b1 b2 b3 l t (ix3 j 0 y) : EReal) = Scalar.select (IntOp.cmpi .eq (l (ix3 0 j 0)) (t (ix3 0 0 y)))
      (iou ![v0 (ix3 0 j 0), v1 (ix3 0 j 0), v2 (ix3 0 j 0), v3 (ix3 0 j 0)] ![b0 (ix3 0 0 y), b1 (ix3 0 0 y), b2 (ix3 0 0 y), b3 (ix3 0 0 y)])
      (Ideal.ofBits .f32 3212836864#32) := by
  pointwise [iou0, k0_pay26, k0_pay16, k0_pay18, k0_pay20, k0_pay22, k0_pay23, k0_pay24, k0_pay25, k0_pay15, k0_pay17, k0_pay19, k0_pay21]
  rfl

theorem iou1_at (v0 v1 v2 v3 : Vec Ideal S1x200x1 .f32) (b0 b1 b2 b3 : Vec Ideal S1x1x512 .f32) (l : Vec Ideal S1x200x1 .i32)
    (t : Vec Ideal S1x1x512 .i32) (j : Fin 200) (y : Fin 512) :
    (iou1 v0 v1 v2 v3 b0 b1 b2 b3 l t (ix3 j 0 y) : EReal) = Scalar.select (IntOp.cmpi .eq (l (ix3 0 j 0)) (t (ix3 0 0 y)))
      (iou ![v0 (ix3 0 j 0), v1 (ix3 0 j 0), v2 (ix3 0 j 0), v3 (ix3 0 j 0)] ![b0 (ix3 0 0 y), b1 (ix3 0 0 y), b2 (ix3 0 0 y), b3 (ix3 0 0 y)])
      (Ideal.ofBits .f32 3212836864#32) := by
  pointwise [iou1, k0_pay37, k0_pay35, k0_pay36, k0_pay27, k0_pay28, k0_pay29, k0_pay30, k0_pay31, k0_pay32, k0_pay33, k0_pay34]
  rfl

theorem iou2_at (v0 v1 v2 v3 : Vec Ideal S1x200x1 .f32) (b0 b1 b2 b3 : Vec Ideal S1x1x512 .f32) (l : Vec Ideal S1x200x1 .i32)
    (t : Vec Ideal S1x1x512 .i32) (j : Fin 200) (y : Fin 512) :
    (iou2 v0 v1 v2 v3 b0 b1 b2 b3 l t (ix3 j 0 y) : EReal) = Scalar.select (IntOp.cmpi .eq (l (ix3 0 j 0)) (t (ix3 0 0 y)))
      (iou ![v0 (ix3 0 j 0), v1 (ix3 0 j 0), v2 (ix3 0 j 0), v3 (ix3 0 j 0)] ![b0 (ix3 0 0 y), b1 (ix3 0 0 y), b2 (ix3 0 0 y), b3 (ix3 0 0 y)])
      (Ideal.ofBits .f32 3212836864#32) := by
  pointwise [iou2, k0_pay1, k0_pay45, k0_pay38, k0_pay39, k0_pay40, k0_pay41, k0_pay42, k0_pay43, k0_pay44]
  rfl

/-- The rows of the buffer. -/
theorem rows_at (a : Fin 3) (j : Fin 200) (y : Fin 512) :
    (iouB (F := Ideal) (p0 c g1 g2 g3 g4 (h1.unread X1) (h2.unread X2) (h3.unread X3) (h4.unread X4)) (p1 c g1 g2 g3 g4 (h1.unread X1) (h2.unread X2) (h3.unread X3) (h4.unread X4))
        (p2 c g1 g2 g3 g4 (h1.unread X1) (h2.unread X2) (h3.unread X3) (h4.unread X4)) (ix3 j ⟨a.val, by omega⟩ y) : EReal)
      = cell X1 X2 X3 X4 a j y := by
  rw [iouB_apply]
  match a with
  | ⟨0, _⟩ =>
    rw [if_pos rfl]
    refine (iou0_at _ _ _ _ _ _ _ _ _ _ j y).trans (cell_of X1 X2 X3 X4 _ _ _ _ _ _ _ _ _ _ _ j y ?_ ?_ ?_ ?_ ?_ ?_ ?_ ?_ ?_ ?_)
    · exact ldL_at c g2 h2 X2 0 _ _ j
    · exact ldT_at c g4 h4 X4 0 _ _ y
    · exact ldA_at c g1 h1 X1 0 0 _ (by decide) _ j
    · exact ldA_at c g1 h1 X1 0 1 _ (by decide) _ j
    · exact ldA_at c g1 h1 X1 0 2 _ (by decide) _ j
    · exact ldA_at c g1 h1 X1 0 3 _ (by decide) _ j
    · exact ldB_at c g3 h3 X3 0 0 _ (by decide) _ y
    · exact ldB_at c g3 h3 X3 0 1 _ (by decide) _ y
    · exact ldB_at c g3 h3 X3 0 2 _ (by decide) _ y
    · exact ldB_at c g3 h3 X3 0 3 _ (by decide) _ y
  | ⟨1, _⟩ =>
    rw [if_neg (by simp), if_pos rfl]
    refine (iou1_at _ _ _ _ _ _ _ _ _ _ j y).trans (cell_of X1 X2 X3 X4 _ _ _ _ _ _ _ _ _ _ _ j y ?_ ?_ ?_ ?_ ?_ ?_ ?_ ?_ ?_ ?_)
    · exact ldL_at c g2 h2 X2 1 _ _ j
    · exact ldT_at c g4 h4 X4 1 _ _ y
    · exact ldA_at c g1 h1 X1 1 0 _ (by decide) _ j
    · exact ldA_at c g1 h1 X1 1 1 _ (by decide) _ j
    · exact ldA_at c g1 h1 X1 1 2 _ (by decide) _ j
    · exact ldA_at c g1 h1 X1 1 3 _ (by decide) _ j
    · exact ldB_at c g3 h3 X3 1 0 _ (by decide) _ y
    · exact ldB_at c g3 h3 X3 1 1 _ (by decide) _ y
    · exact ldB_at c g3 h3 X3 1 2 _ (by decide) _ y
    · exact ldB_at c g3 h3 X3 1 3 _ (by decide) _ y
  | ⟨2, _⟩ =>
    rw [if_neg (by simp), if_neg (by simp)]
    refine (iou2_at _ _ _ _ _ _ _ _ _ _ j y).trans (cell_of X1 X2 X3 X4 _ _ _ _ _ _ _ _ _ _ _ j y ?_ ?_ ?_ ?_ ?_ ?_ ?_ ?_ ?_ ?_)
    · exact ldL_at c g2 h2 X2 2 _ _ j
    · exact ldT_at c g4 h4 X4 2 _ _ y
    · exact ldA_at c g1 h1 X1 2 0 _ (by decide) _ j
    · exact ldA_at c g1 h1 X1 2 1 _ (by decide) _ j
    · exact ldA_at c g1 h1 X1 2 2 _ (by decide) _ j
    · exact ldA_at c g1 h1 X1 2 3 _ (by decide) _ j
    · exact ldB_at c g3 h3 X3 2 0 _ (by decide) _ y
    · exact ldB_at c g3 h3 X3 2 1 _ (by decide) _ y
    · exact ldB_at c g3 h3 X3 2 2 _ (by decide) _ y
    · exact ldB_at c g3 h3 X3 2 3 _ (by decide) _ y

end Loads

theorem cell_val (X1 : FVec Ideal S3x200x4 .f32) (X2 : IVec S3x200x1 32) (X3 : FVec Ideal S3x4x512 .f32) (X4 : IVec S3x1x512 32)
    (a : Fin 3) (j : Fin 200) (l : Fin 512) (b t : Fin 4 → EReal) (w w' : BitVec 32) (h1 : ∀ k, (X1 (ix3 a j k) : EReal) = b k)
    (h2 : X2 (ix3 a j 0) = w) (h3 : ∀ k, (X3 (ix3 a k l) : EReal) = t k) (h4 : X4 (ix3 a 0 l) = w') :
    cell X1 X2 X3 X4 a j l = Scalar.select (IntOp.cmpi .eq w w') (iou b t) (Ideal.ofBits .f32 3212836864#32) := by
  unfold cell
  rw [h2, h4, funext h1, funext h3]

/-- A point's cells. -/
abbrev cellAt (t : Fin cfg0.N) (a : Fin 3) (j : Fin 200) (l : Fin 512) : EReal :=
  cell (iblk m c 0 t) (iblk m c 1 t) (iblk m c 2 t) (iblk m c 3 t) a j l

theorem cellAt_eq (t : Fin cfg0.N) (ht : t.val < 10) (a : Fin 3) (j : Fin 200) (l : Fin 500) (h : l.val < 512) :
    cellAt m c t a j ⟨l.val, h⟩
      = Scalar.select (IntOp.cmpi .eq (x2 m c (ix2 a (pos (x1 m c) a ⟨200 * t.val + j.val, by omega⟩))) (x4 m c (ix2 a l)))
        (iou (fun k => x0 m c (ix3 a (pos (x1 m c) a ⟨200 * t.val + j.val, by omega⟩) k)) (fun k => x3 m c (ix3 a l k)))
        (Ideal.ofBits .f32 3212836864#32) :=
  cell_val _ _ _ _ a j ⟨l.val, h⟩ _ _ _ _ (fun k => (blk0 m c t ht a j k).trans (pb_eq m c a _ k))
    ((blk1 m c t ht a j).trans (plab_eq m c a _))
    (fun k => (blk2 m c t _).trans ((tbt_eq m c a k ⟨l.val, h⟩).trans (dif_pos l.isLt)))
    ((blk3 m c t _).trans ((tlab_eq m c a ⟨l.val, h⟩).trans (dif_pos l.isLt)))

/-- The value of a cell on a target's lane: the overlap where the labels agree, −1 elsewhere. -/
theorem cell_eq (t : Fin cfg0.N) (ht : t.val < 10) (a : Fin 3) (j : Fin 200) (l : Fin 500) (h : l.val < 512) :
    (lab (x1 m c) (x2 m c) (x4 m c) a (200 * t.val + j.val) l →
      cellAt m c t a j ⟨l.val, h⟩ = row (x0 m c) (x1 m c) (x3 m c) a (200 * t.val + j.val) l)
    ∧ (¬ lab (x1 m c) (x2 m c) (x4 m c) a (200 * t.val + j.val) l → cellAt m c t a j ⟨l.val, h⟩ = -1) := by
  have hn : 200 * t.val + j.val < 2000 := by omega
  rw [cellAt_eq m c t ht a j l h]
  unfold lab row
  rw [dif_pos hn]
  constructor
  · rintro ⟨_, e⟩
    rw [e, show IntOp.cmpi .eq (x4 m c (ix2 a l)) (x4 m c (ix2 a l)) = 1#1 from by
      show BitVec.ofBool (_ == _) = _; rw [beq_self_eq_true]; rfl]
    rfl
  · intro e
    have hb : (x2 m c (ix2 a (pos (x1 m c) a ⟨200 * t.val + j.val, hn⟩)) == x4 m c (ix2 a l)) = false := by
      rw [beq_eq_false_iff_ne]; exact fun e' => e ⟨hn, e'⟩
    rw [show IntOp.cmpi .eq (x2 m c (ix2 a (pos (x1 m c) a ⟨200 * t.val + j.val, hn⟩))) (x4 m c (ix2 a l)) = 0#1 from by
      show BitVec.ofBool (_ == _) = _; rw [hb]; rfl]
    exact neg_one_eq

/-- Past the targets: −1, or the overlap with an empty box. -/
theorem cell_pad (t : Fin cfg0.N) (a : Fin 3) (j : Fin 200) (l : Fin 512) (h : 500 ≤ l.val) :
    cellAt m c t a j l = -1 ∨ cellAt m c t a j l = 0 := by
  rw [cellAt, cell_val (iblk m c 0 t) (iblk m c 1 t) (iblk m c 2 t) (iblk m c 3 t) a j l _ (fun _ => 0) _ _ (fun _ => rfl) rfl
    (fun k => (blk2 m c t _).trans ((tbt_eq m c a k l).trans (dif_neg (not_lt.mpr h)))) rfl, iou_empty]
  generalize IntOp.cmpi .eq _ _ = b
  unfold Scalar.select
  split
  · exact Or.inr rfl
  · exact Or.inl neg_one_eq

end Cert.KernelIdeal.Kit

end
-- ==== Proof.KernelIdeal.Step.lean ====
/- One matching step of the kernel: from the matches, the counts and the envelope after `n` predictions to those after
   `n + 1`. -/
module

public import proofs.«01_k».proof.Proof.Model
public import proofs.«01_k».proof.Proof.Spec
public import proofs.«01_k».proof.Proof.KernelIdeal.Loop

@[expose] public section

set_option maxHeartbeats 1000000
set_option maxRecDepth 16384

noncomputable section

namespace Cert.KernelIdeal.Kit

open Cert.KernelIdeal.Gen Cert.Model Cert.Spec
open Idealize.ShloMosaic Idealize.ShloMosaic.TcCoe Idealize.ShloMosaic.Tactic
open Idealize.SL Idealize.SL.Sem
open scoped Classical

/-- The scratch state after `n` predictions, of the rows `X` and the equal labels `L`. -/
structure Good (X : Fin 3 → ℕ → Fin 500 → EReal) (L : Fin 3 → ℕ → Fin 500 → Prop) (n : ℕ) (s : St Ideal) : Prop where
  matched : ∀ (a : Fin 3) (t : Fin 16) (l : Fin 500) (h : l.val < 512), t.val < 10 →
    (s.1 (ix3 a t ⟨l.val, h⟩) : EReal) = if mm (thr t.val) (X a) (L a) n l then 1 else 0
  count : ∀ (a : Fin 3) (t : Fin 16), t.val < 10 →
    (s.2.1 (ix3 a t 0) : EReal) = (((cnt (thr t.val) (X a) (L a) n : ℕ) : ℝ) : EReal)
  best : ∀ (a : Fin 3) (t : Fin 16) (r : Fin 128), t.val < 10 → r.val < 101 →
    (s.2.2 (ix3 a t r) : EReal) = env (thr t.val) (X a) (L a) (recThr r.val) n

/-- Bits as propositions. -/
theorem ofBool_select {V : Type} (p : Prop) [Decidable p] (A B : V) : Scalar.select (BitVec.ofBool (decide p)) A B = if p then A else B := by
  by_cases h : p <;> simp [h, Scalar.select]

theorem andi_select {V : Type} (p q : Prop) [Decidable p] [Decidable q] (A B : V) :
    Scalar.select (IntOp.andi (BitVec.ofBool (decide p)) (BitVec.ofBool (decide q))) A B = if p ∧ q then A else B := by
  by_cases h : p <;> by_cases h' : q <;> simp [h, h', Scalar.select, IntOp.andi]

theorem bit_value (p : Prop) [Decidable p] :
    (FloatOps.sitofp (F := Ideal) .f32 (BitVec.setWidth 32 (BitVec.ofBool (decide p))) : EReal) = if p then 1 else 0 := by
  by_cases h : p
  · rw [if_pos h, decide_eq_true h]
    show (((1#32 : BitVec 32).toInt : ℝ) : EReal) = 1
    simp
  · rw [if_neg h, decide_eq_false h]
    show (((0#32 : BitVec 32).toInt : ℝ) : EReal) = 0
    simp

/-- The row a camera's matching reads, with what may not be matched at −1. -/
abbrev lanes (v : Vec Ideal S1x16x1 .f32) (row : Vec Ideal S1x8x512 .f32) (M : Vec Ideal S3x16x512 .f32) (a : Fin 3) (t : Fin 16) (l : Fin 512) : EReal :=
  k0_pay7 (k0_pay2 v) row M (ix3 a t l)

theorem lanes_eq (v : Vec Ideal S1x16x1 .f32) (row : Vec Ideal S1x8x512 .f32) (M : Vec Ideal S3x16x512 .f32) (a : Fin 3) (t : Fin 16) (l : Fin 512) :
    lanes v row M a t l = if (v (ix3 0 t 0) : EReal) ≤ row (ix3 0 ⟨a.val, by omega⟩ l) ∧ (M (ix3 a t l) : EReal) < Ideal.ofBits .f32 1056964608#32
      then (row (ix3 0 ⟨a.val, by omega⟩ l) : EReal) else Ideal.ofBits .f32 3212836864#32 := by
  rw [← andi_select]
  unfold lanes
  pointwise [k0_pay7, k0_pay2]

/-- The greatest of the row. -/
abbrev top (v : Vec Ideal S1x16x1 .f32) (row : Vec Ideal S1x8x512 .f32) (M : Vec Ideal S3x16x512 .f32) (a : Fin 3) (t : Fin 16) : EReal :=
  Finset.univ.fold max (Ideal.ofBits .f32 4286578688#32) (lanes v row M a t)

theorem next_eq (v : Vec Ideal S1x16x1 .f32) (row : Vec Ideal S1x8x512 .f32) (M : Vec Ideal S3x16x512 .f32) (a : Fin 3) (t : Fin 16) (l : Fin 512) :
    (k0_pay10 (k0_pay2 v) (iota .tc S1x1x512 32 [2] iota_S1x1x512_d2_w32) row M (ix3 a t l) : EReal)
      = if BitVec.ofNat 32 l.val = Finset.univ.fold IntOp.minsi (2147483647#32)
          (fun y : Fin 512 => if lanes v row M a t y = top v row M a t then BitVec.ofNat 32 y.val else 1024#32) ∧ 0 < top v row M a t
        then (1 : EReal) else M (ix3 a t l) := by
  rw [← andi_select]
  pointwise [k0_pay10, k0_pay9, k0_pay8]
  rfl

theorem count_eq (v : Vec Ideal S1x16x1 .f32) (row : Vec Ideal S1x8x512 .f32) (M : Vec Ideal S3x16x512 .f32) (C : Vec Ideal S3x16x1 .f32)
    (a : Fin 3) (t : Fin 16) :
    (k0_pay4 C (k0_pay11 (k0_pay2 v) row M) (ix3 a t 0) : EReal) = (C (ix3 a t 0) : EReal) + (if 0 < top v row M a t then 1 else 0) := by
  rw [← bit_value]
  pointwise [k0_pay4, k0_pay11, k0_pay8, k0_pay9, k0_pay3]

theorem best_eq (C : Vec Ideal S3x16x1 .f32)
    (b j : BitVec 32) (r : Vec Ideal S1x1x128 .f32) (A : Vec Ideal S3x16x128 .f32) (B : IVec S3x16x1 32)
    (a : Fin 3) (t : Fin 16) (l : Fin 128) :
    (k0_pay5 b r j C B A (ix3 a t l) : EReal) = max (A (ix3 a t l) : EReal)
      (if (r (ix3 0 0 l) : EReal) ≤ Ideal.div (k0_pay4 C B (ix3 a t 0)) (Ideal.ofBits .f32 1140457472#32)
        then Ideal.div (k0_pay4 C B (ix3 a t 0)) (((Scalar.addi (Scalar.addi (Scalar.muli b 200#32) j) 1#32).toInt : ℝ) : EReal) else 0) := by
  pointwise [k0_pay5, k0_pay4, k0_pay3]

/-- The step. -/
theorem Good.step {X : Fin 3 → ℕ → Fin 500 → EReal} {L : Fin 3 → ℕ → Fin 500 → Prop} {n : ℕ} {s : St Ideal} (hs : Good X L n s)
    (b j : BitVec 32) (v : Vec Ideal S1x16x1 .f32) (r : Vec Ideal S1x1x128 .f32) (row : Vec Ideal S1x8x512 .f32)
    (hv : ∀ t : Fin 16, t.val < 10 → (v (ix3 0 t 0) : EReal) = thr t.val) (hr : ∀ l : Fin 128, l.val < 101 → (r (ix3 0 0 l) : EReal) = recThr l.val)
    (hrow : ∀ (a : Fin 3) (l : Fin 500) (h : l.val < 512), (L a n l → (row (ix3 0 ⟨a.val, by omega⟩ ⟨l.val, h⟩) : EReal) = X a n l)
      ∧ (¬ L a n l → (row (ix3 0 ⟨a.val, by omega⟩ ⟨l.val, h⟩) : EReal) = -1))
    (hpad : ∀ (a : Fin 3) (l : Fin 512), 500 ≤ l.val → (row (ix3 0 ⟨a.val, by omega⟩ l) : EReal) = -1 ∨ (row (ix3 0 ⟨a.val, by omega⟩ l) : EReal) = 0)
    (hw : (Scalar.addi (Scalar.addi (Scalar.muli b 200#32) j) 1#32).toInt = (n + 1 : ℕ)) :
    Good X L (n + 1) (stepSt b v r j row s) := by
  have hg : ∀ (a : Fin 3) (t : Fin 16), t.val < 10 → ∀ l : Fin 500,
      lanes v row s.1 a t ⟨l.val, by omega⟩ = masked (thr t.val) (X a n) (L a n) (mm (thr t.val) (X a) (L a) n) l := by
    intro a t ht l
    rw [lanes_eq, hv t ht, hs.matched a t l _ ht, half_eq, neg_one_eq]
    obtain ⟨h1, h2⟩ := hrow a l (by omega)
    unfold masked cand
    by_cases hL : L a n l
    · rw [h1 hL]
      by_cases hm : mm (thr t.val) (X a) (L a) n l
      · have : ¬ ((1 : EReal) < ((1 / 2 : ℝ) : EReal)) := by
          rw [← EReal.coe_one, EReal.coe_lt_coe_iff]; norm_num
        rw [if_pos hm, if_neg (fun q => this q.2), if_neg (fun q => q.2.2 hm)]
      · have : ((0 : EReal) < ((1 / 2 : ℝ) : EReal)) := by
          rw [← EReal.coe_zero, EReal.coe_lt_coe_iff]; norm_num
        rw [if_neg hm]
        by_cases hx : thr t.val ≤ X a n l
        · rw [if_pos ⟨hx, this⟩, if_pos ⟨hx, hL, hm⟩]
        · rw [if_neg (fun q => hx q.1), if_neg (fun q => hx q.1)]
    · rw [h2 hL]
      have : ¬ (thr t.val ≤ -1) := not_le.mpr (neg_one_lt.trans (thr_pos t))
      simp [hL, this]
  have hp : ∀ (a : Fin 3) (t : Fin 16), t.val < 10 → ∀ l : Fin 512, 500 ≤ l.val → lanes v row s.1 a t l = -1 := by
    intro a t ht l hl
    rw [lanes_eq, hv t ht, neg_one_eq, if_neg]
    rintro ⟨h, -⟩
    rcases hpad a l hl with e | e
    · rw [e] at h; exact absurd h (not_le.mpr (neg_one_lt.trans (thr_pos t)))
    · rw [e] at h; exact absurd h (not_le.mpr (thr_pos t))
  have hb : (Ideal.ofBits .f32 4286578688#32 : EReal) = ⊥ := neg_inf_eq
  have hh : ∀ (a : Fin 3) (t : Fin 16), t.val < 10 → (0 < top v row s.1 a t ↔ hit (thr t.val) (X a) (L a) n) := fun a t ht =>
    has_lanes (thr_pos t) (lanes v row s.1 a t) (hg a t ht) (hp a t ht) _ (by rw [hb]; exact bot_le)
  have hc : ∀ (a : Fin 3) (t : Fin 16), t.val < 10 → (k0_pay4 s.2.1 (k0_pay11 (k0_pay2 v) row s.1) (ix3 a t 0) : EReal)
      = (((cnt (thr t.val) (X a) (L a) (n + 1) : ℕ) : ℝ) : EReal) := by
    intro a t ht
    rw [count_eq, hs.count a t ht, cnt]
    by_cases h : hit (thr t.val) (X a) (L a) n
    · rw [if_pos ((hh a t ht).mpr h), if_pos h, Nat.cast_add, Nat.cast_one, EReal.coe_add, EReal.coe_one]
    · rw [if_neg (mt (hh a t ht).mp h), if_neg h, add_zero, add_zero]
  refine ⟨?_, hc, ?_⟩
  · intro a t l h ht
    show (k0_pay10 (k0_pay2 v) (iota .tc S1x1x512 32 [2] iota_S1x1x512_d2_w32) row s.1 (ix3 a t ⟨l.val, h⟩) : EReal) = _
    rw [next_eq, hs.matched a t l h ht, mm]
    have e1 := minsi_first (lanes v row s.1 a t) (Ideal.ofBits .f32 4286578688#32) (fun l => by rw [hb]; exact bot_le) ⟨l.val, h⟩
    by_cases hx : hit (thr t.val) (X a) (L a) n
    · have e2 := isFirst_lanes (thr_pos t) (lanes v row s.1 a t) (hg a t ht) (hp a t ht) hx l
      have e3 := (hh a t ht).mpr hx
      unfold next
      by_cases hf : isFirst (masked (thr t.val) (X a n) (L a n) (mm (thr t.val) (X a) (L a) n)) l
      · rw [if_pos ⟨e1.mpr (e2.mpr hf), e3⟩, if_pos (Or.inr ⟨hf, hx⟩)]
      · rw [if_neg (fun q => hf (e2.mp (e1.mp q.1)))]
        by_cases hm : mm (thr t.val) (X a) (L a) n l
        · rw [if_pos hm, if_pos (Or.inl hm)]
        · rw [if_neg hm, if_neg (fun q => q.elim hm fun z => hf z.1)]
    · rw [if_neg (fun q => hx ((hh a t ht).mp q.2))]
      unfold next
      by_cases hm : mm (thr t.val) (X a) (L a) n l
      · rw [if_pos hm, if_pos (Or.inl hm)]
      · rw [if_neg hm, if_neg (fun q => q.elim hm fun z => hx z.2)]
  · intro a t l ht hl
    show (k0_pay5 b r j s.2.1 (k0_pay11 (k0_pay2 v) row s.1) s.2.2 (ix3 a t l) : EReal) = _
    rw [best_eq, hc a t ht, hr l hl, hs.best a t l ht hl, hw, env, five_hundred_eq]
    have d1 : Ideal.div (((cnt (thr t.val) (X a) (L a) (n + 1) : ℕ) : ℝ) : EReal) ((500 : ℝ) : EReal) = recall (thr t.val) (X a) (L a) n := by
      rw [Ideal.div_coe (by norm_num), ← EReal.coe_mul, recall, mul_one_div]
    have d2 : Ideal.div (((cnt (thr t.val) (X a) (L a) (n + 1) : ℕ) : ℝ) : EReal) ((((n + 1 : ℕ) : ℤ) : ℝ) : EReal) = prec (thr t.val) (X a) (L a) n := by
      rw [Int.cast_natCast, Ideal.div_coe (by positivity), ← EReal.coe_mul, prec, mul_one_div]
    rw [d1, d2]

end Cert.KernelIdeal.Kit

end
-- ==== Proof.KernelIdeal.Points.lean ====
/- The scratch state from point to point of the grid, and what the last point stores. -/
module

public import proofs.«01_k».proof.Proof.Result
public import proofs.«01_k».proof.Proof.KernelIdeal.Rows
public import proofs.«01_k».proof.Proof.KernelIdeal.Step
import Idealize.ShloMosaic.Lib.WholeRead

@[expose] public section

set_option maxHeartbeats 1000000
set_option maxRecDepth 16384

noncomputable section

namespace Cert.KernelIdeal.Kit

open Cert.KernelIdeal.Gen Cert.Model Cert.Spec
open Idealize.ShloMosaic Idealize.ShloMosaic.TcCoe Idealize.ShloMosaic.Tactic
open Idealize.SL Idealize.SL.Sem

/-- The number of the prediction, as the kernel counts it. -/
theorem number_eq (t k : ℕ) (ht : t < 10) (hk : k < 200) :
    (Scalar.addi (Scalar.addi (Scalar.muli (BitVec.ofNat 32 t) 200#32) (Scf.iv 0#32 1#32 k)) 1#32).toInt = ((200 * t + k + 1 : ℕ) : ℤ) := by
  have e : Scalar.addi (Scalar.addi (Scalar.muli (BitVec.ofNat 32 t) 200#32) (Scf.iv 0#32 1#32 k)) 1#32 = BitVec.ofNat 32 (200 * t + k + 1) := by
    apply BitVec.eq_of_toNat_eq
    show (BitVec.ofNat 32 t * 200#32 + (0#32 + BitVec.ofNat 32 k * 1#32) + 1#32).toNat = _
    simp only [BitVec.toNat_add, BitVec.toNat_mul, BitVec.toNat_ofNat]
    omega
  have e2 : (BitVec.ofNat 32 (200 * t + k + 1)).toNat = 200 * t + k + 1 := by
    rw [BitVec.toNat_ofNat]; exact Nat.mod_eq_of_lt (by omega)
  rw [e, BitVec.toInt_eq_toNat_of_lt (by rw [e2]; omega), e2]

/-- The steps of a point. -/
theorem good_trips {X : Fin 3 → ℕ → Fin 500 → EReal} {L : Fin 3 → ℕ → Fin 500 → Prop} (t : ℕ) (ht : t < 10)
    (v : Vec Ideal S1x16x1 .f32) (r : Vec Ideal S1x1x128 .f32) (f : Vec Ideal S200x8x512 .f32) (s : St Ideal) (hs : Good X L (200 * t) s)
    (hv : ∀ t : Fin 16, t.val < 10 → (v (ix3 0 t 0) : EReal) = thr t.val) (hr : ∀ l : Fin 128, l.val < 101 → (r (ix3 0 0 l) : EReal) = recThr l.val)
    (hrow : ∀ (k : Fin 200) (a : Fin 3) (l : Fin 500) (h : l.val < 512),
      (L a (200 * t + k.val) l → (f (ix3 k ⟨a.val, by omega⟩ ⟨l.val, h⟩) : EReal) = X a (200 * t + k.val) l)
      ∧ (¬ L a (200 * t + k.val) l → (f (ix3 k ⟨a.val, by omega⟩ ⟨l.val, h⟩) : EReal) = -1))
    (hpad : ∀ (k : Fin 200) (a : Fin 3) (l : Fin 512), 500 ≤ l.val →
      (f (ix3 k ⟨a.val, by omega⟩ l) : EReal) = -1 ∨ (f (ix3 k ⟨a.val, by omega⟩ l) : EReal) = 0) :
    ∀ k : ℕ, k ≤ 200 → Good X L (200 * t + k) (stN (BitVec.ofNat 32 t) v r f s k) := by
  intro k
  induction k with
  | zero => intro _; exact hs
  | succ k ih =>
    intro hk
    have hk' : k < 200 := hk
    rw [stN_step, dif_pos (by rw [trips_eq]; exact hk')]
    refine (ih (Nat.le_of_succ_le hk)).step _ _ _ _ _ hv hr ?_ ?_ (number_eq t k ht hk')
    · intro a l h
      rw [rowAt_apply _ _ hk']
      exact hrow ⟨k, hk'⟩ a l h
    · intro a l h
      rw [rowAt_apply _ _ hk']
      exact hpad ⟨k, hk'⟩ a l h

theorem good_zero (X : Fin 3 → ℕ → Fin 500 → EReal) (L : Fin 3 → ℕ → Fin 500 → Prop) : Good X L 0 (st0 (F := Ideal)) where
  matched a t l h ht := by
    rw [if_neg (by rw [mm]; exact id)]
    exact zero_lit
  count a t ht := by
    rw [cnt, Nat.cast_zero, EReal.coe_zero]
    exact zero_lit
  best a t r ht hr := by
    rw [env]
    exact zero_lit

variable (m : (ℓ : Loc nD τ sig) → Buf (Elt Ideal) ℓ) (c : Dev nD)

theorem coord_eq (t : Fin cfg0.N) : (grid0.coords t 0).val = t.val := by revert t; decide

theorem first_iff (t : Fin cfg0.N) : isFirst (grid0.coords t) = 1#1 → t.val = 0 := by revert t; decide

abbrev rows (a : Fin 3) := row (x0 m c) (x1 m c) (x3 m c) a
abbrev labels (a : Fin 3) := lab (x1 m c) (x2 m c) (x4 m c) a

theorem ldThr_at (t : Fin cfg0.N) (k : Fin 16) (hk : k.val < 10) :
    (ldThr c (ms4 t) ((hs4 t).unread (iblk m c 4 t)) (ix3 0 k 0) : EReal) = thr k.val := by
  refine Eq.trans ?_ ((blk4 m c t (ix3 0 k 0)).trans (thr_eq m c k hk))
  refine ((hs4 t).readAt_unread (Val := Elt Ideal) (iblk m c 4 t) _ _).trans (congrArg (iblk m c 4 t) (funext fun b => Fin.ext ?_))
  match b with
  | ⟨0, _⟩ => rfl
  | ⟨1, _⟩ => show 0 + 1 * k.val = k.val; omega
  | ⟨2, _⟩ => rfl

theorem ldRec_at (t : Fin cfg0.N) (k : Fin 128) (hk : k.val < 101) :
    (ldRec c (ms5 t) ((hs5 t).unread (iblk m c 5 t)) (ix3 0 0 k) : EReal) = recThr k.val := by
  refine Eq.trans ?_ ((blk5 m c t (ix3 0 0 k)).trans (rec_eq m c k hk))
  refine ((hs5 t).readAt_unread (Val := Elt Ideal) (iblk m c 5 t) _ _).trans (congrArg (iblk m c 5 t) (funext fun b => Fin.ext ?_))
  match b with
  | ⟨0, _⟩ => rfl
  | ⟨1, _⟩ => rfl
  | ⟨2, _⟩ => show 0 + 1 * k.val = k.val; omega

theorem good_point (t : Fin cfg0.N) (s : St Ideal) (hs : Good (rows m c) (labels m c) (200 * t.val) s) :
    Good (rows m c) (labels m c) (200 * (t.val + 1)) (stAt m c t s) := by
  have ht : t.val < 10 := by have := t.isLt; have h10 : cfg0.N = 10 := N_0; omega
  unfold stAt stOut
  rw [trips_eq, coord_eq]
  have hin : Good (rows m c) (labels m c) (200 * t.val) (stIn (grid0.coords t) s) := by
    unfold stIn
    split
    · rw [first_iff t ‹_›]; exact good_zero _ _
    · exact hs
  refine good_trips t.val ht _ _ _ _ hin (fun k hk => ldThr_at m c t k hk) (fun k hk => ldRec_at m c t k hk) ?_ ?_ 200 le_rfl
  · intro k a l h
    rw [rows_at]
    exact cell_eq m c t ht a k l h
  · intro k a l h
    rw [rows_at]
    exact cell_pad m c t a k l h

theorem good_pt : ∀ n : ℕ, n ≤ 10 → Good (rows m c) (labels m c) (200 * n) (stPt m c n)
  | 0, _ => good_zero _ _
  | n + 1, h => by
    have hn : n < cfg0.N := by rw [show cfg0.N = 10 from N_0]; exact h
    have e := stPt_succ m c ⟨n, hn⟩
    rw [e]
    exact good_point m c ⟨n, hn⟩ _ (good_pt n (Nat.le_of_succ_le h))

theorem mean_at (A : Vec Ideal S3x10x101 .f32) (a : Fin 3) (l : Fin 128) :
    (k0_pay6 A (ix2 a l) : EReal) = Ideal.div (∑ t : Fin 10, ∑ r : Fin 101, (A (ix3 a t r) : EReal)) (Ideal.ofBits .f32 1149009920#32) := by
  pointwise [k0_pay6]

theorem corner_at (A : Vec Ideal S3x16x128 .f32) (a : Fin 3) (t : Fin 10) (r : Fin 101) :
    corner A (ix3 a t r) = A (ix3 a ⟨t.val, by omega⟩ ⟨r.val, by omega⟩) := by
  unfold corner
  rw [View.readAt_apply]
  show A _ = A _
  refine congrArg A (funext fun b => Fin.ext ?_)
  match b with
  | ⟨0, _⟩ => show 0 + 1 * a.val = a.val; omega
  | ⟨1, _⟩ => show 0 + 1 * t.val = t.val; omega
  | ⟨2, _⟩ => show 0 + 1 * r.val = r.val; omega

theorem corner_good {X : Fin 3 → ℕ → Fin 500 → EReal} {L : Fin 3 → ℕ → Fin 500 → Prop} {n : ℕ} {s : St Ideal} (h : Good X L n s)
    (a : Fin 3) (t : Fin 10) (r : Fin 101) : (corner s.2.2 (ix3 a t r) : EReal) = env (thr t.val) (X a) (L a) (recThr r.val) n := by
  rw [corner_at]
  exact h.best a ⟨t.val, by omega⟩ ⟨r.val, by omega⟩ t.isLt r.isLt

theorem mean_good {X : Fin 3 → ℕ → Fin 500 → EReal} {L : Fin 3 → ℕ → Fin 500 → Prop} {n : ℕ} {s : St Ideal} (h : Good X L n s)
    (a : Fin 3) (l : Fin 128) : (k0_pay6 (corner s.2.2) (ix2 a l) : EReal)
      = Ideal.div (∑ t : Fin 10, ∑ r : Fin 101, env (thr t.val) (X a) (L a) (recThr r.val) n) (Ideal.ofBits .f32 1149009920#32) := by
  rw [mean_at]
  refine congrArg (fun z => Ideal.div z (Ideal.ofBits .f32 1149009920#32)) (Finset.sum_congr rfl fun k _ => Finset.sum_congr rfl fun r _ => ?_)
  exact corner_good h a k r

/-- What the last point stores is the score, on every lane. -/
theorem outVec_at (t : Fin cfg0.N) (ht : t.val = 9) (a : Fin 3) (l : Fin 128) :
    (outVec m c t (ix2 a l) : EReal) = score (x0 m c) (x1 m c) (x2 m c) (x3 m c) (x4 m c) a := by
  unfold outVec
  rw [ht]
  have h : Good (rows m c) (labels m c) 2000 (stPt m c (9 + 1)) := good_pt m c 10 le_rfl
  unfold score
  exact mean_good h a l

end Cert.KernelIdeal.Kit

end
-- ==== Proof.KernelIdeal.Final.lean ====
/- The kernel's result: its array's first column, which is the score of each camera. -/
module

public import proofs.«01_k».proof.Proof.KernelIdeal.Points

@[expose] public section

set_option maxHeartbeats 1000000
set_option maxRecDepth 16384

noncomputable section

namespace Cert.KernelIdeal.Kit

open Cert.KernelIdeal.Gen Cert.Model
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

/-- The last point. -/
abbrev t9 : Fin cfg0.N := ⟨9, by rw [show cfg0.N = 10 from N_0]; decide⟩

/-- The one write-back, at the last point, writes the whole array. -/
theorem flushed_eq (t : Fin cfg0.N) (hf : (cfg0.win 6).flush t = true) :
    (dats m 0 c).flushed 6 t = ((cfg0.win 6).blk t).view.read (Elt Ideal) (outVec m c t9) := by
  have hN : cfg0.N = 10 := N_0
  have h9 : t.val = 9 := by have := (flush0_6 t).mp hf; have := t.isLt; omega
  obtain rfl : t = t9 := Fin.ext h9
  show (cfg0.win 6).cut (grid0.coords t9) ((dats m 0 c).after 6 t9) = _
  rw [after_6]
  have hz : (fun a => win0_6.index t9 a * main_call0_v20.ty.shape.size a) = fun _ => 0 := funext fun a => by fin_cases a <;> decide
  exact (Memref.read_access_unit_zero (Elt Ideal) main_call0_v20 hz (fun a => by rw [congrFun hz a]; simp) (outVec m c t9)).symm

theorem final_array : (dats m 0 c).arrAt 6 cfg0.N = outVec m c t9 :=
  (dats m 0 c).arrAt_eq_of_cover 6 (outVec m c t9) (flushed_eq m c) fun i =>
    ⟨t9, (flush0_6 t9).mpr rfl, by
      show i ∈ ((View.whole main_call0_v20).slice (win0_6.rect t9)).set
      rw [View.set_slice_whole, Rect.mem_set_unit]
      intro a
      have h0 : (i 0 : Nat) < 3 := (i 0).isLt
      have h1 : (i 1 : Nat) < 128 := (i 1).isLt
      match a with
      | ⟨0, _⟩ => show win0_6.index t9 0 * win0_6.size 0 ≤ (i 0 : Nat) ∧ (i 0 : Nat) < win0_6.index t9 0 * win0_6.size 0 + win0_6.xsize (grid0.coords t9) 0
                  rw [show win0_6.index t9 0 * win0_6.size 0 = 0 from by decide +kernel, show win0_6.xsize (grid0.coords t9) 0 = 3 from by decide +kernel]; omega
      | ⟨1, _⟩ => show win0_6.index t9 1 * win0_6.size 1 ≤ (i 1 : Nat) ∧ (i 1 : Nat) < win0_6.index t9 1 * win0_6.size 1 + win0_6.xsize (grid0.coords t9) 1
                  rw [show win0_6.index t9 1 * win0_6.size 1 = 0 from by decide +kernel, show win0_6.xsize (grid0.coords t9) 1 = 128 from by decide +kernel]; omega⟩

/-- The scores, as contents of the result. -/
def scores : FVec Ideal S3 .f32 := fun i => score (x0 m c) (x1 m c) (x2 m c) (x3 m c) (x4 m c) (i 0)

/-- What the operations after the launch leave in the result. -/
theorem tail_eq : Pipeline.afterTail₀ cfgs (dats m) 0 (V0 m) [hostOps1] c main_v0 = scores m c := by
  have e : ∀ a : Fin 3, (Pipeline.afterTail₀ cfgs (dats m) 0 (V0 m) [hostOps1] c main_v0 : FVec Ideal S3 .f32) (ix1 a)
      = (Pipeline.withArrays spec0 c (V0 m c) (fun w => (dats m 0 c).arrAt w cfg0.N) (Proc.devRef .tc main_call0_v20) : FVec Ideal S3x128 .f32) (ix2 a 0) := by
    intro a
    unfold Pipeline.afterTail₀
    simp only [List.flatten_cons, List.flatten_nil, List.append_nil]
    after_reads_at
  funext i
  have hi : i = ix1 (i 0) := funext fun b => match b with | ⟨0, _⟩ => rfl
  rw [hi]
  refine (e (i 0)).trans ?_
  have h2 : (Pipeline.withArrays spec0 c (V0 m c) (fun w => (dats m 0 c).arrAt w cfg0.N) (Proc.devRef .tc main_call0_v20) : FVec Ideal S3x128 .f32)
      = outVec m c t9 := (Pipeline.withArrays_arr spec0 (by decide) c (V0 m c) (fun w => (dats m 0 c).arrAt w cfg0.N) 6).trans (final_array m c)
  rw [h2]
  exact outVec_at m c t9 rfl (i 0) 0

/-- The run, read. -/
theorem value_run : θ_run defs (onTc (τ := τ) (main (F := Ideal))) ⟨m, fun _ => 0, ρ⟩ (fun r => ∀ c : Dev nD,
      r.2.mem ((c.tc : Thread nD τ).loc main_v0) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Kit

end
-- ==== Proof.RefInputs.lean ====
/- What the reference has before its loop: the overlaps and equal labels of the predictions in their order, row after
   row, the thresholds, no target matched. -/
module

public import proofs.«01_k».proof.Proof.Model
public import proofs.«01_k».proof.Proof.RefFrame
public import Idealize.ShloMosaic.Lib.StableHlo.ReadAt

@[expose] public section

set_option maxHeartbeats 2000000

noncomputable section

namespace Cert.ReferenceIdeal.Kit

open Cert.ReferenceIdeal.Gen Cert.ReferenceIdeal.Value Cert.Model
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

/-! The arguments. -/
abbrev x0 : FVec Ideal S3x2000x4 .f32 := launchContents m c (Proc.tc.devRef main_arg0)
abbrev x1 : FVec Ideal S3x2000 .f32 := launchContents m c (Proc.tc.devRef main_arg1)
abbrev x2 : IVec S3x2000 32 := launchContents m c (Proc.tc.devRef main_arg2)
abbrev x3 : FVec Ideal S3x500x4 .f32 := launchContents m c (Proc.tc.devRef main_arg3)
abbrev x4 : IVec S3x500 32 := launchContents m c (Proc.tc.devRef main_arg4)

theorem iota_eq : broadcastInDim S3x2000 ![1] bcast_S2000_S3x2000_1 (iotaInDim S2000 32 0) = iotaInDim S3x2000 32 1 := rfl

theorem words_eq (a : Fin 3) (l : Fin 2000) (w : BitVec 32) :
    Scalar.select (IntOp.cmpi .slt ((Host.sort2 S3x2000 1 comparator_f32_i32_d1 (Host.negf (x1 m c))
        (broadcastInDim S3x2000 ![1] bcast_S2000_S3x2000_1 (iotaInDim S2000 32 0))).2 (ix2 a l)) 0#32) w
      ((Host.sort2 S3x2000 1 comparator_f32_i32_d1 (Host.negf (x1 m c))
        (broadcastInDim S3x2000 ![1] bcast_S2000_S3x2000_1 (iotaInDim S2000 32 0))).2 (ix2 a l))
      = BitVec.ofNat 32 (pos (x1 m c) a l).val := by
  rw [iota_eq]
  have h : (Host.sort2 S3x2000 1 comparator_f32_i32_d1 (Host.negf (x1 m c)) (iotaInDim S3x2000 32 1)).2 (ix2 a l)
      = BitVec.ofNat 32 (pos (x1 m c) a l).val := order_eq (x1 m c) a l
  rw [h]
  exact wrap_eq _ _

theorem col_apply {V : Type} (h) (y : Shape.Idx S3x2000 → V) (a : Fin 3) (l : Fin 2000) :
    broadcastInDim S3x2000x1 ![0, 1] h y (ix3 a l 0) = y (ix2 a l) := by
  refine congrArg y (funext fun b => ?_)
  match b with
  | ⟨0, _⟩ => rfl
  | ⟨1, _⟩ => rfl

theorem lanes_apply {V : Type} (h h') (y : Shape.Idx S3x2000 → V) (a : Fin 3) (l : Fin 2000) (k : Fin 500) :
    broadcastInDim S3x2000x500 ![0, 1, 2] h (broadcastInDim S3x2000x1 ![0, 1] h' y) (ix3 a l k) = y (ix2 a l) := by
  refine congrArg y (funext fun b => ?_)
  match b with
  | ⟨0, _⟩ => rfl
  | ⟨1, _⟩ => rfl

theorem targets_apply {V : Type} (h h') (y : Shape.Idx S3x500 → V) (a : Fin 3) (l : Fin 2000) (k : Fin 500) :
    broadcastInDim S3x2000x500 ![0, 1, 2] h (broadcastInDim S3x1x500 ![0, 2] h' y) (ix3 a l k) = y (ix2 a k) := by
  refine congrArg y (funext fun b => ?_)
  match b with
  | ⟨0, _⟩ => rfl
  | ⟨1, _⟩ => rfl

theorem swap_apply {V : Type} (y : Shape.Idx S3x2000x500 → V) (h) (l : Fin 2000) (a : Fin 3) (k : Fin 500) :
    (id (transpose S2000x3x500 [1, 0, 2] y h) : Shape.Idx S2000x3x500 → V) (ix3 l a k) = y (ix3 a l k) := by
  refine congrArg y (funext fun b => ?_)
  match b with
  | ⟨0, _⟩ => rfl
  | ⟨1, _⟩ => rfl
  | ⟨2, _⟩ => rfl

theorem rows_eq (l : Fin 2000) (a : Fin 3) (k : Fin 500) :
    ((entryContents preI m c (Proc.devRef .tc main_v84_0) : FVec Ideal S2000x3x500 .f32) (ix3 l a k) : EReal)
      = row (x0 m c) (x1 m c) (x3 m c) a l.val k := by
  simp only [entryContents, afterL_cons, afterL_nil]
  after_reads_at
  refine (swap_apply _ _ l a k).trans ?_
  refine (row_at (K := 500) gather_S3x2000x500_S3x2000x1_S3x2000x500_2_1_0_0_1_2_11500_wf _ _ a l k (pos (x1 m c) a l) ?_).trans ?_
  · exact (col_apply _ _ a l).trans (words_eq m c a l _)
  unfold row
  rw [dif_pos l.isLt]
  generalize pos (x1 m c) a ⟨l.val, l.isLt⟩ = p
  pointwise []
  have z : (id (constant (F := Ideal) S_ .f32 0#32) ix0 : EReal) = 0 := zero_lit
  rw [z]
  rfl

theorem labs_eq (l : Fin 2000) (a : Fin 3) (k : Fin 500) :
    (entryContents preI m c (Proc.devRef .tc main_v84_1) : IVec S2000x3x500 1) (ix3 l a k) = 1#1
      ↔ lab (x1 m c) (x2 m c) (x4 m c) a l.val k := by
  have h : (entryContents preI m c (Proc.devRef .tc main_v84_1) : IVec S2000x3x500 1) (ix3 l a k)
      = IntOp.cmpi .eq (x2 m c (ix2 a (pos (x1 m c) a l))) (x4 m c (ix2 a k)) := by
    simp only [entryContents, afterL_cons, afterL_nil]
    after_reads_at
    refine (swap_apply _ _ l a k).trans ?_
    refine congrArg₂ (fun v w => IntOp.cmpi .eq v w) ((lanes_apply _ _ _ a l k).trans ?_) (targets_apply _ _ _ a l k)
    exact vec_at gather_S3x2000_S3x2000x1_S3x2000_n_1_0_0_1_2_11_wf _ _ a l _ ((col_apply _ _ a l).trans (words_eq m c a l _))
  rw [h]
  unfold lab
  unfold IntOp.cmpi
  constructor
  · intro e
    refine ⟨l.isLt, ?_⟩
    by_contra hn
    have hb : (x2 m c (ix2 a (pos (x1 m c) a l)) == x4 m c (ix2 a k)) = false := by simpa using hn
    change BitVec.ofBool (x2 m c (ix2 a (pos (x1 m c) a l)) == x4 m c (ix2 a k)) = 1#1 at e
    rw [hb] at e
    revert e
    decide
  · rintro ⟨_, e⟩
    simp [e]

theorem thr_eq (t : Fin 10) :
    ((entryContents preI m c (Proc.devRef .tc main_v84_2) : FVec Ideal S10 .f32) (ix1 t) : EReal) = thr t.val := by
  simp only [entryContents, afterL_cons, afterL_nil]
  after_reads_at
  rfl

theorem counter_eq :
    ((entryContents preI m c (Proc.devRef .tc main_v84_3) : IVec S_ 32) ix0 : BitVec 32) = 0#32 := by
  simp only [entryContents, afterL_cons, afterL_nil]
  after_reads_at
  rfl

theorem matched_eq (a : Fin 3) (t : Fin 10) (k : Fin 500) :
    ((entryContents preI m c (Proc.devRef .tc main_v84_4) : IVec S3x10x500 1) (ix3 a t k) : BitVec 1) = 0#1 := by
  simp only [entryContents, afterL_cons, afterL_nil]
  after_reads_at
  rfl

theorem tp_eq (l : Fin 2000) (a : Fin 3) (t : Fin 10) :
    ((entryContents preI m c (Proc.devRef .tc main_v84_5) : FVec Ideal S2000x3x10 .f32) (ix3 l a t) : EReal) = (0 : EReal) := by
  simp only [entryContents, afterL_cons, afterL_nil]
  after_reads_at
  exact zero_lit

theorem rec_eq (t : Fin 101) :
    ((entryContents preI m c (Proc.devRef .tc main_v5) : FVec Ideal S101 .f32) (ix1 t) : EReal) = recThr t.val := by
  simp only [entryContents, afterL_cons, afterL_nil]
  after_reads_at
  by_cases h : t.val < 100
  · rw [dif_pos h]
    after_reads_at
    exact (if_pos h).symm
  · rw [dif_neg h]
    after_reads_at
    exact (if_neg h).symm

end Cert.ReferenceIdeal.Kit

end
-- ==== Proof.RefStep.lean ====
/- One trip of the reference's loop: from the matches and the hits after `n` predictions to those after `n + 1`. -/
module

public import proofs.«01_k».proof.Proof.RefInputs
public import proofs.«01_k».proof.Proof.Arrays
public import proofs.«01_k».proof.Proof.Spec
public import Idealize.ShloMosaic.Lib.WordCmp

@[expose] public section

set_option maxHeartbeats 1000000
set_option maxRecDepth 8192

noncomputable section

namespace Cert.ReferenceIdeal.Kit

open Cert.ReferenceIdeal.Gen Cert.ReferenceIdeal.Value Cert.Model Cert.Spec
open Idealize.ShloMosaic Idealize.ShloMosaic.TcCoe Idealize.ShloMosaic.Tactic Idealize.ShloMosaic.StableHlo
open Idealize.SL Idealize.SL.Sem
open scoped Classical

/-! ## Bits -/

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem not_one (a : BitVec 1) : ~~~a = 1#1 ↔ ¬ a = 1#1 := by revert a; decide
theorem zero_ne : ¬ (0#1 : BitVec 1) = 1#1 := by simp
theorem bit_one (p : Prop) [Decidable p] : BitVec.ofBool (decide p) = 1#1 ↔ p := by by_cases h : p <;> simp [h]
theorem select_one {V : Type} (b : BitVec 1) (A B : V) : Scalar.select b A B = if b = 1#1 then A else B := by
  by_cases h : b = 1#1
  · subst h; rfl
  · rw [if_neg h]
    have : b = 0#1 := by revert b; decide
    subst this; rfl
theorem uitofp_one (b : BitVec 1) : (FloatOps.uitofp (F := Ideal) .f32 b : EReal) = if b = 1#1 then 1 else 0 := by
  have h : b = 0#1 ∨ b = 1#1 := by revert b; decide
  rcases h with rfl | rfl
  · show (((0#1 : BitVec 1).toNat : ℝ) : EReal) = _
    simp
  · show (((1#1 : BitVec 1).toNat : ℝ) : EReal) = _
    simp

theorem fold_or {n : ℕ} (p : Fin n → BitVec 1) : Finset.univ.fold IntOp.ori (0#1) p = 1#1 ↔ ∃ l, p l = 1#1 := by
  have h : ∀ s : Finset (Fin n), s.fold IntOp.ori (0#1) p = 1#1 ↔ ∃ l ∈ s, p l = 1#1 := by
    intro s
    induction s using Finset.induction_on with
    | empty => simp
    | insert a s ha ih =>
      rw [Finset.fold_insert ha, ori_one, ih]
      simp
  simpa using h Finset.univ

/-! ## The loop's array operations at an index -/

theorem read_row {V : Type} (x : Shape.Idx S2000x3x500 → V) (s : Fin 3 → ℤ) (n : ℕ) (hn : n < 2000)
    (hs : ∀ b, s b = (((![n, 0, 0] : Fin 3 → ℕ) b : ℕ) : ℤ)) (h h') (a : Fin 3) (k : Fin 500) :
    shapeCast S3x500 (Host.dynamicSlice S1x3x500 x s h) h' (ix2 a k) = x (ix3 ⟨n, hn⟩ a k) := by
  rw [WordCmp.dynamicSlice_eq_extract S1x3x500 x s h ![n, 0, 0] ⟨rfl, fun b => by
    match b with
    | ⟨0, _⟩ => show n + 1 ≤ 2000; omega
    | ⟨1, _⟩ => show 0 + 3 ≤ 3; omega
    | ⟨2, _⟩ => show 0 + 500 ≤ 500; omega⟩ hs]
  pointwise

theorem write_row {V : Type} (x : Shape.Idx S2000x3x10 → V) (u : Shape.Idx S1x3x10 → V) (s : Fin 3 → ℤ) (n : ℕ) (hn : n < 2000)
    (hs : ∀ b, s b = (((![n, 0, 0] : Fin 3 → ℕ) b : ℕ) : ℤ)) (h) (l : Fin 2000) (a : Fin 3) (t : Fin 10) :
    Host.dynamicUpdateSlice x u s h (ix3 l a t) = if l.val = n then u (ix3 0 a t) else x (ix3 l a t) := by
  rw [WordCmp.dynamicUpdateSlice_eq_update x u s h ![n, 0, 0] ⟨rfl, fun b => by
    match b with
    | ⟨0, _⟩ => show n + 1 ≤ 2000; omega
    | ⟨1, _⟩ => show 0 + 3 ≤ 3; omega
    | ⟨2, _⟩ => show 0 + 10 ≤ 10; omega⟩ hs]
  unfold updateSlice
  split
  · next hin =>
    have h0 := hin 0
    change n ≤ l.val ∧ l.val < n + 1 at h0
    rw [if_pos (by omega)]
    refine congrArg u (funext fun b => Fin.ext ?_)
    match b with
    | ⟨0, _⟩ => show l.val - n = 0; omega
    | ⟨1, _⟩ => exact Nat.sub_zero _
    | ⟨2, _⟩ => exact Nat.sub_zero _
  · next hin =>
    rw [if_neg]
    intro e
    apply hin
    intro b
    match b with
    | ⟨0, _⟩ => show n ≤ l.val ∧ l.val < n + 1; omega
    | ⟨1, _⟩ => show 0 ≤ a.val ∧ a.val < 0 + 3; omega
    | ⟨2, _⟩ => show 0 ≤ t.val ∧ t.val < 0 + 10; omega

theorem rowMax_apply (y : FVec Ideal S3x10x500 .f32) (a : Fin 3) (t : Fin 10) :
    (Host.reduce (FloatOps.maximumf (F := Ideal) (φ := .f32)) y (constant (F := Ideal) S_ .f32 0xFF800000#32) reducesTo_S3x10x500_S3x10_d2 h_S_ (ix2 a t) : EReal)
      = Finset.univ.fold max (⊥ : EReal) (fun l : Fin 500 => (y (ix3 a t l) : EReal)) := by
  refine (Host.reduce_eq_fold (FloatOps.maximumf (F := Ideal) (φ := .f32)) y _ reducesTo_S3x10x500_S3x10_d2 h_S_ (ix2 a t)).trans ?_
  refine (Shape.ReducesTo.fold_fiber_r3_a2 reducesTo_S3x10x500_S3x10_d2 (ix2 a t) _ _ y).trans ?_
  rw [← neg_inf_eq]
  rfl

theorem rowOr_apply (y : IVec S3x10x500 1) (a : Fin 3) (t : Fin 10) :
    Host.reduce IntOp.ori y (constantI S_ 1 0#1) reducesTo_S3x10x500_S3x10_d2 h_S_ (ix2 a t) = 1#1
      ↔ ∃ l : Fin 500, y (ix3 a t l) = 1#1 := by
  rw [← fold_or]
  refine Eq.congr_left ?_
  refine (Host.reduce_eq_fold IntOp.ori y _ reducesTo_S3x10x500_S3x10_d2 h_S_ (ix2 a t)).trans ?_
  exact Shape.ReducesTo.fold_fiber_r3_a2 reducesTo_S3x10x500_S3x10_d2 (ix2 a t) _ _ y

/-- How many of the first `k` entries hold. -/
def tally (p : ℕ → Prop) : ℕ → ℕ
  | 0 => 0
  | k + 1 => tally p k + if p k then 1 else 0

theorem tally_le (p : ℕ → Prop) (k : ℕ) : tally p k ≤ k := by
  induction k with
  | zero => exact le_rfl
  | succ k ih => rw [tally]; split <;> omega

theorem tally_zero (p : ℕ → Prop) (k : ℕ) : tally p k = 0 ↔ ∀ i < k, ¬ p i := by
  induction k with
  | zero => simp [tally]
  | succ k ih =>
    rw [tally]
    constructor
    · intro h i hi
      have h0 : tally p k = 0 := by omega
      rcases Nat.lt_succ_iff_lt_or_eq.mp hi with h1 | rfl
      · exact ih.mp h0 i h1
      · intro hp; rw [if_pos hp] at h; omega
    · intro h
      rw [ih.mpr fun i hi => h i (by omega), if_neg (h k (by omega))]

theorem foldl_tally (p : ℕ → Prop) (k : ℕ) :
    (List.range k).foldl (fun r i => IntOp.addi r (if p i then 1#32 else 0#32)) 0#32 = BitVec.ofNat 32 (tally p k) := by
  induction k with
  | zero => rfl
  | succ k ih =>
    rw [List.range_succ, List.foldl_append, ih, List.foldl_cons, List.foldl_nil, tally]
    show BitVec.ofNat 32 _ + _ = _
    split
    · rw [BitVec.ofNat_add]
    · rw [Nat.add_zero]; exact BitVec.add_zero _

/-- The first true entry: true, and the count up to it is one. -/
theorem first_iff (y : IVec S3x10x500 1) (a : Fin 3) (t : Fin 10) (k : Fin 500) :
    IntOp.andi (y (ix3 a t k)) (IntOp.cmpi .eq (Host.reduceWindow IntOp.addi ![1, 1, 500] ![1, 1, 1] ![0, 0, 499] ![0, 0, 0]
        (extui 32 y natLt_1_32) (broadcastInDim S_ ![] bcast_S_S_ (constantI S_ 32 0#32))
        reduceWindows_S3x10x500_S3x10x500_w1s1p0_0_w1s1p0_0_w500s1p499_0 h_S_ (ix3 a t k)) 1#32) = 1#1
      ↔ y (ix3 a t k) = 1#1 ∧ ∀ l < k, ¬ y (ix3 a t l) = 1#1 := by
  obtain ⟨p, hp0⟩ : ∃ p : ℕ → Prop, ∀ i, p i ↔ ∃ h : i < 500, y (ix3 a t ⟨i, h⟩) = 1#1 := ⟨_, fun _ => Iff.rfl⟩
  have hw := Arrays.window_apply IntOp.addi (extui 32 y natLt_1_32) (broadcastInDim S_ ![] bcast_S_S_ (constantI S_ 32 0#32)) 0#32
    499 rfl reduceWindows_S3x10x500_S3x10x500_w1s1p0_0_w1s1p0_0_w500s1p499_0 h_S_ rfl rfl (fun i => if p i then 1#32 else 0#32) a t
    (fun i => by
      show BitVec.setWidth 32 (y (ix3 a t i)) = if p i.val then 1#32 else 0#32
      have h : y (ix3 a t i) = 0#1 ∨ y (ix3 a t i) = 1#1 := by generalize y (ix3 a t i) = b; revert b; decide
      rcases h with h | h
      · rw [if_neg (fun hp => by obtain ⟨_, hp⟩ := (hp0 _).mp hp; rw [show (⟨i.val, _⟩ : Fin 500) = i from rfl, h] at hp; exact absurd hp (by decide)), h]
        rfl
      · rw [if_pos ((hp0 _).mpr ⟨i.isLt, h⟩), h]
        rfl) k
  rw [andi_one, hw, foldl_tally]
  refine and_congr_right fun hy => ?_
  have hp : p k.val := (hp0 _).mpr ⟨k.isLt, hy⟩
  have hl := tally_le p k.val
  have hk := k.isLt
  rw [tally, if_pos hp, show (IntOp.cmpi .eq (BitVec.ofNat 32 (tally p k.val + 1)) 1#32 = 1#1 ↔ tally p k.val = 0) from ?_, tally_zero]
  · exact ⟨fun h l hlk e => h l.val hlk ((hp0 _).mpr ⟨l.isLt, e⟩), fun h i hi e => by
      obtain ⟨h', e⟩ := (hp0 _).mp e
      exact h ⟨i, h'⟩ hi e⟩
  · show BitVec.ofBool (decide (BitVec.ofNat 32 (tally p k.val + 1) = 1#32)) = 1#1 ↔ _
    rw [bit_one]
    constructor
    · intro e
      have e' := congrArg BitVec.toNat e
      rw [BitVec.toNat_ofNat, Nat.mod_eq_of_lt (by omega)] at e'
      change _ = 1 at e'
      omega
    · intro e; rw [e]

/-! ## One trip -/

/-- The carried buffers after `n` predictions, of the rows `X` and the equal labels `L`. -/
structure GoodR (X : Fin 3 → ℕ → Fin 500 → EReal) (L : Fin 3 → ℕ → Fin 500 → Prop) (n : ℕ) (V : Valuation τ sig (Elt Ideal)) : Prop where
  rows : ∀ (l : Fin 2000) (a : Fin 3) (k : Fin 500),
    ((V (Proc.devRef .tc main_v84_0) : FVec Ideal S2000x3x500 .f32) (ix3 l a k) : EReal) = X a l.val k
  labs : ∀ (l : Fin 2000) (a : Fin 3) (k : Fin 500),
    (V (Proc.devRef .tc main_v84_1) : IVec S2000x3x500 1) (ix3 l a k) = 1#1 ↔ L a l.val k
  thrs : ∀ t : Fin 10, ((V (Proc.devRef .tc main_v84_2) : FVec Ideal S10 .f32) (ix1 t) : EReal) = thr t.val
  counter : (V (Proc.devRef .tc main_v84_3) : IVec S_ 32) ix0 = BitVec.ofNat 32 n
  matched : ∀ (a : Fin 3) (t : Fin 10) (k : Fin 500),
    (V (Proc.devRef .tc main_v84_4) : IVec S3x10x500 1) (ix3 a t k) = 1#1 ↔ mm (thr t.val) (X a) (L a) n k
  hits : ∀ (l : Fin 2000) (a : Fin 3) (t : Fin 10), l.val < n →
    ((V (Proc.devRef .tc main_v84_5) : FVec Ideal S2000x3x10 .f32) (ix3 l a t) : EReal)
      = if hit (thr t.val) (X a) (L a) l.val then (1 : EReal) else 0

variable {X : Fin 3 → ℕ → Fin 500 → EReal} {L : Fin 3 → ℕ → Fin 500 → Prop} {n : ℕ} {V : Valuation τ sig (Elt Ideal)}

/-- The place a trip's slices start at. -/
theorem start_eq (hn : n < 2000) (w : IVec S_ 32) (hw : w ix0 = BitVec.ofNat 32 n) (b : Fin 3) :
    (((![w, constantI S_ 32 0#32, constantI S_ 32 0#32] : Fin 3 → IVec S_ 32) b) (Shape.Idx.first h_S_)).toInt
      = (((![n, 0, 0] : Fin 3 → ℕ) b : ℕ) : ℤ) := by
  match b with
  | ⟨0, _⟩ =>
    show (w (Shape.Idx.first h_S_)).toInt = (n : ℤ)
    rw [show (Shape.Idx.first h_S_ : Shape.Idx S_) = ix0 from funext fun b => b.elim0, hw,
      BitVec.toInt_eq_toNat_of_lt (by rw [BitVec.toNat_ofNat]; omega), BitVec.toNat_ofNat, Nat.mod_eq_of_lt (by omega)]
  | ⟨1, _⟩ => rfl
  | ⟨2, _⟩ => rfl

namespace GoodR

variable (G : GoodR X L n V) (hn : n < 2000)
include G hn

theorem row_at (a : Fin 3) (k : Fin 500) : ((res_main_while0b_v122 V : FVec Ideal S3x500 .f32) (ix2 a k) : EReal) = X a n k := by
  unfold res_main_while0b_v122
  exact (read_row _ _ n hn (start_eq hn _ G.counter) _ _ a k).trans (G.rows ⟨n, hn⟩ a k)

theorem cand_at (a : Fin 3) (t : Fin 10) (k : Fin 500) :
    (res_main_while0b_v134 V : IVec S3x10x500 1) (ix3 a t k) = 1#1
      ↔ cand (thr t.val) (X a n) (L a n) (mm (thr t.val) (X a) (L a) n) k := by
  have h : (res_main_while0b_v134 V : IVec S3x10x500 1) (ix3 a t k)
      = IntOp.andi (IntOp.andi (BitVec.ofBool (decide (LE.le (α := EReal) ((V (Proc.devRef .tc main_v84_2) : FVec Ideal S10 .f32) (ix1 t))
          ((res_main_while0b_v122 V : FVec Ideal S3x500 .f32) (ix2 a k)))))
        (shapeCast S3x500 (Host.dynamicSlice S1x3x500 (V (Proc.devRef .tc main_v84_1) : IVec S2000x3x500 1)
          (fun k => (((![V (Proc.devRef .tc main_v84_3), constantI S_ 32 0#32, constantI S_ 32 0#32] : Fin 3 → (⟨S_, .i32⟩ : BufTy).Contents (Elt Ideal))) k (Shape.Idx.first h_S_)).toInt)
          sliceFits_S2000x3x500_S1x3x500) shapeCasts_S1x3x500_S3x500 (ix2 a k)))
        (~~~((V (Proc.devRef .tc main_v84_4) : IVec S3x10x500 1) (ix3 a t k))) := by
    unfold res_main_while0b_v134
    generalize shapeCast S3x500 (Host.dynamicSlice S1x3x500 (V (Proc.devRef .tc main_v84_1)) _ _) _ = z
    pointwise
  rw [h, andi_one, andi_one, bit_one, not_one]
  refine (and_congr (and_congr ?_ ?_) (not_congr (G.matched a t k))).trans and_assoc
  · rw [G.thrs t, G.row_at hn]
  · refine Eq.to_iff ?_ |>.trans (G.labs ⟨n, hn⟩ a k)
    exact congrArg (· = 1#1) (read_row (V (Proc.devRef .tc main_v84_1) : IVec S2000x3x500 1) _ n hn (start_eq hn _ G.counter) _ _ a k)

theorem masked_at (a : Fin 3) (t : Fin 10) (k : Fin 500) :
    ((res_main_while0b_v136 V : FVec Ideal S3x10x500 .f32) (ix3 a t k) : EReal)
      = masked (thr t.val) (X a n) (L a n) (mm (thr t.val) (X a) (L a) n) k := by
  have h : ((res_main_while0b_v136 V : FVec Ideal S3x10x500 .f32) (ix3 a t k) : EReal)
      = Scalar.select ((res_main_while0b_v134 V : IVec S3x10x500 1) (ix3 a t k))
          ((res_main_while0b_v122 V : FVec Ideal S3x500 .f32) (ix2 a k) : EReal) (Ideal.ofBits .f32 3212836864#32) := by
    pointwise [res_main_while0b_v136]
    rfl
  rw [h, select_one, G.row_at hn, neg_one_eq]
  unfold masked
  by_cases hc : (res_main_while0b_v134 V : IVec S3x10x500 1) (ix3 a t k) = 1#1
  · rw [if_pos hc, if_pos ((G.cand_at hn a t k).mp hc)]
  · rw [if_neg hc, if_neg (fun e => hc ((G.cand_at hn a t k).mpr e))]

theorem has_at (a : Fin 3) (t : Fin 10) :
    (res_main_while0b_v137 V : IVec S3x10 1) (ix2 a t) = 1#1 ↔ hit (thr t.val) (X a) (L a) n := by
  unfold res_main_while0b_v137
  rw [rowOr_apply]
  exact exists_congr fun l => G.cand_at hn a t l

theorem best_at (a : Fin 3) (t : Fin 10) (k : Fin 500) :
    (res_main_while0b_v141 V : IVec S3x10x500 1) (ix3 a t k) = 1#1
      ↔ ∀ l, masked (thr t.val) (X a n) (L a n) (mm (thr t.val) (X a) (L a) n) l
          ≤ masked (thr t.val) (X a n) (L a n) (mm (thr t.val) (X a) (L a) n) k := by
  have h : (res_main_while0b_v141 V : IVec S3x10x500 1) (ix3 a t k)
      = BitVec.ofBool (decide (((res_main_while0b_v136 V : FVec Ideal S3x10x500 .f32) (ix3 a t k) : EReal)
          = Host.reduce (FloatOps.maximumf (F := Ideal) (φ := .f32)) (res_main_while0b_v136 V : FVec Ideal S3x10x500 .f32) (constant (F := Ideal) S_ .f32 0xFF800000#32) reducesTo_S3x10x500_S3x10_d2 h_S_ (ix2 a t))) := by
    unfold res_main_while0b_v141
    generalize Host.reduce (FloatOps.maximumf (F := Ideal) (φ := .f32)) (res_main_while0b_v136 V : FVec Ideal S3x10x500 .f32) (constant (F := Ideal) S_ .f32 0xFF800000#32) reducesTo_S3x10x500_S3x10_d2 h_S_ = w
    pointwise
  rw [h, bit_one, rowMax_apply]
  simp only [G.masked_at hn]
  obtain ⟨h1, l, h2⟩ := fold_max_spec ⊥ (fun l => masked (thr t.val) (X a n) (L a n) (mm (thr t.val) (X a) (L a) n) l) (fun _ => bot_le) k
  constructor
  · intro e l'
    rw [e]
    exact h1 l'
  · intro e
    exact le_antisymm (α := EReal) (h1 k) (h2 ▸ e l)

theorem matched_step (a : Fin 3) (t : Fin 10) (k : Fin 500) :
    (step_main_v84_4 V : IVec S3x10x500 1) (ix3 a t k) = 1#1 ↔ mm (thr t.val) (X a) (L a) (n + 1) k := by
  have h : (step_main_v84_4 V : IVec S3x10x500 1) (ix3 a t k)
      = IntOp.ori ((V (Proc.devRef .tc main_v84_4) : IVec S3x10x500 1) (ix3 a t k))
        (IntOp.andi (IntOp.andi ((res_main_while0b_v141 V : IVec S3x10x500 1) (ix3 a t k))
          (IntOp.cmpi .eq (Host.reduceWindow IntOp.addi ![1, 1, 500] ![1, 1, 1] ![0, 0, 499] ![0, 0, 0]
            (extui 32 (res_main_while0b_v141 V : IVec S3x10x500 1) natLt_1_32) (broadcastInDim S_ ![] bcast_S_S_ (constantI S_ 32 0#32))
            reduceWindows_S3x10x500_S3x10x500_w1s1p0_0_w1s1p0_0_w500s1p499_0 h_S_ (ix3 a t k)) 1#32))
          ((res_main_while0b_v137 V : IVec S3x10 1) (ix2 a t))) := by
    unfold step_main_v84_4
    generalize Host.reduceWindow IntOp.addi _ _ _ _ _ _ _ _ = w
    generalize (res_main_while0b_v141 V : IVec S3x10x500 1) = y
    generalize (res_main_while0b_v137 V : IVec S3x10 1) = z
    pointwise [id]
  rw [h, ori_one, andi_one, first_iff, G.matched, G.has_at hn]
  simp only [G.best_at hn]
  refine or_congr Iff.rfl (and_congr ?_ Iff.rfl)
  refine and_congr_right fun hb => ?_
  refine forall₂_congr fun l hl => ?_
  constructor
  · intro hl'
    by_contra hge
    exact hl' fun l' => (hb l').trans (not_lt.mp hge)
  · intro hlt hall
    exact absurd (hall k) (not_le.mpr hlt)

theorem hits_step (l : Fin 2000) (a : Fin 3) (t : Fin 10) (hl : l.val < n + 1) :
    ((step_main_v84_5 V : FVec Ideal S2000x3x10 .f32) (ix3 l a t) : EReal)
      = if hit (thr t.val) (X a) (L a) l.val then (1 : EReal) else 0 := by
  unfold step_main_v84_5
  refine (write_row (V (Proc.devRef .tc main_v84_5) : FVec Ideal S2000x3x10 .f32) _ _ n hn (start_eq hn _ G.counter) _ l a t).trans ?_
  by_cases e : l.val = n
  · rw [if_pos e, e]
    have h : ∀ z : IVec S3x10 1, ((broadcastInDim S1x3x10 ![1, 2] bcast_S3x10_S1x3x10_1_2 (uitofp (F := Ideal) .f32 z)) (ix3 0 a t) : EReal)
        = FloatOps.uitofp (F := Ideal) .f32 (z (ix2 a t)) := fun z => by pointwise
    refine (h _).trans ?_
    rw [uitofp_one]
    by_cases hc : (res_main_while0b_v137 V : IVec S3x10 1) (ix2 a t) = 1#1
    · rw [if_pos hc, if_pos ((G.has_at hn a t).mp hc)]
    · rw [if_neg hc, if_neg (fun e => hc ((G.has_at hn a t).mpr e))]
  · rw [if_neg e]
    exact G.hits l a t (by omega)

theorem counter_step : (step_main_v84_3 V : IVec S_ 32) ix0 = BitVec.ofNat 32 (n + 1) := by
  refine (congrArg (fun w : BitVec 32 => w + 1#32) G.counter).trans ?_
  rw [BitVec.ofNat_add]

theorem step : GoodR X L (n + 1) (STEP V) where
  rows l a k := by rw [STEP_main_v84_0]; exact G.rows l a k
  labs l a k := by rw [STEP_main_v84_1]; exact G.labs l a k
  thrs t := by rw [STEP_main_v84_2]; exact G.thrs t
  counter := by rw [STEP_main_v84_3]; exact G.counter_step hn
  matched a t k := by rw [STEP_main_v84_4]; exact G.matched_step hn a t k
  hits l a t hl := by rw [STEP_main_v84_5]; exact G.hits_step hn l a t hl

end GoodR

/-- All trips. -/
theorem GoodR.iterate (G : GoodR X L 0 V) (n : ℕ) (hn : n ≤ 2000) : GoodR X L n (STEP^[n] V) := by
  induction n with
  | zero => exact G
  | succ n ih =>
    rw [Function.iterate_succ_apply']
    exact (ih (by omega)).step (by omega)

variable (m : (ℓ : Loc nD τ sig) → Buf (Elt Ideal) ℓ) (c : Dev nD)

/-- What the loop is entered with. -/
theorem good_entry : GoodR (row (x0 m c) (x1 m c) (x3 m c)) (lab (x1 m c) (x2 m c) (x4 m c)) 0 (entryContents preI m c) where
  rows l a k := rows_eq m c l a k
  labs l a k := labs_eq m c l a k
  thrs t := thr_eq m c t
  counter := counter_eq m c
  matched a t k := by
    rw [matched_eq m c a t k]
    exact ⟨fun h => absurd h zero_ne, fun h => h.elim⟩
  hits l a t hl := absurd hl (Nat.not_lt_zero _)

/-- The hits the loop ends with. -/
theorem hits_final (l : Fin 2000) (a : Fin 3) (t : Fin 10) :
    ((atK m 2000 c (Proc.devRef .tc main_v84_5) : FVec Ideal S2000x3x10 .f32) (ix3 l a t) : EReal)
      = if hit (thr t.val) (row (x0 m c) (x1 m c) (x3 m c) a) (lab (x1 m c) (x2 m c) (x4 m c) a) l.val then (1 : EReal) else 0 := by
  rw [atK_agree m c 2000 main_v84_5 (by decide)]
  exact ((good_entry m c).iterate 2000 le_rfl).hits l a t l.isLt

end Cert.ReferenceIdeal.Kit

end
-- ==== Proof.RefPost.lean ====
/- The reference's last stretch: from the hits to the mean of the best precisions. -/
module

public import proofs.«01_k».proof.Proof.RefStep
public import proofs.«01_k».proof.Proof.Result

@[expose] public section

set_option maxHeartbeats 1000000
set_option maxRecDepth 8192

noncomputable section

namespace Cert.ReferenceIdeal.Kit

open Cert.ReferenceIdeal.Gen Cert.ReferenceIdeal.Value Cert.Model Cert.Spec
open Idealize.ShloMosaic Idealize.ShloMosaic.TcCoe Idealize.ShloMosaic.Tactic Idealize.ShloMosaic.StableHlo
open Idealize.SL Idealize.SL.Sem
open scoped Classical

/-! ## Folds -/

theorem foldl_max (y : ℕ → EReal) (k : ℕ) :
    (∀ i ≤ k, y i ≤ (List.range (k + 1)).foldl (fun r i => max r (y i)) ⊥)
      ∧ ∃ i ≤ k, (List.range (k + 1)).foldl (fun r i => max r (y i)) ⊥ = y i := by
  induction k with
  | zero =>
    have h : (List.range (0 + 1)).foldl (fun r i => max r (y i)) ⊥ = y 0 := by
      show max ⊥ (y 0) = y 0
      exact max_eq_right bot_le
    rw [h]
    exact ⟨fun i hi => by rw [Nat.le_zero.mp hi], 0, le_rfl, rfl⟩
  | succ k ih =>
    obtain ⟨h1, j, hj, h2⟩ := ih
    rw [List.range_succ, List.foldl_append, List.foldl_cons, List.foldl_nil]
    constructor
    · intro i hi
      rcases Nat.lt_or_ge k i with h | h
      · rw [show i = k + 1 by omega]; exact le_max_right _ _
      · exact (h1 i h).trans (le_max_left _ _)
    · rcases max_choice ((List.range (k + 1)).foldl (fun r i => max r (y i)) ⊥) (y (k + 1)) with e | e
      · exact ⟨j, by omega, e.trans h2⟩
      · exact ⟨k + 1, le_rfl, e⟩

theorem fold_count {n : ℕ} (p : Fin n → Prop) :
    Finset.univ.fold IntOp.addi 0#32 (fun l => BitVec.setWidth 32 (BitVec.ofBool (decide (p l))))
      = BitVec.ofNat 32 (Finset.univ.filter p).card := by
  have h : ∀ s : Finset (Fin n), s.fold IntOp.addi 0#32 (fun l => BitVec.setWidth 32 (BitVec.ofBool (decide (p l))))
      = BitVec.ofNat 32 (s.filter p).card := by
    intro s
    induction s using Finset.induction_on with
    | empty => rfl
    | insert a s ha ih =>
      rw [Finset.fold_insert ha, ih, Finset.filter_insert]
      by_cases hp : p a
      · rw [if_pos hp, Finset.card_insert_of_notMem (fun h => ha (Finset.mem_filter.mp h).1), decide_eq_true hp, Nat.add_comm, BitVec.ofNat_add]
        rfl
      · rw [if_neg hp, decide_eq_false hp]
        exact BitVec.zero_add _
  exact h _

/-! ## The arrays of the last stretch -/

variable (T : FVec Ideal S2000x3x10 .f32) (R : FVec Ideal S101 .f32)

/-- The hits, predictions last. -/
abbrev hitsT : FVec Ideal S3x10x2000 .f32 := transpose S3x10x2000 [1, 2, 0] T transposes_S2000x3x10_S3x10x2000_1_2_0

/-- Sums of the first entries. -/
def sums (y : FVec Ideal S3x10x2000 .f32) : FVec Ideal S3x10x2000 .f32 :=
  Host.reduceWindowAdd ![1, 1, 2000] ![1, 1, 1] ![0, 0, 1999] ![0, 0, 0] y (broadcastInDim S_ ![] bcast_S_S_ (constant S_ FTy.f32 0#32))
    reduceWindows_S3x10x2000_S3x10x2000_w1s1p0_0_w1s1p0_0_w2000s1p1999_0 h_S_

/-- The misses. -/
def missT : FVec Ideal S3x10x2000 .f32 :=
  subf (broadcastInDim S3x10x2000 ![] bcast_S_S3x10x2000 (constant S_ FTy.f32 1065353216#32)) (hitsT T)

/-- The precisions. -/
def precs : FVec Ideal S3x10x2000 .f32 :=
  Host.divf (sums (hitsT T)) (maximumf (addf (sums (hitsT T)) (sums (missT T)))
    (broadcastInDim S3x10x2000 ![] bcast_S_S3x10x2000 (constant S_ FTy.f32 814313567#32)))

/-- The best precision from each prediction on. -/
def bests (y : FVec Ideal S3x10x2000 .f32) : FVec Ideal S3x10x2000 .f32 :=
  Host.reverse [2] (Host.reduceWindow (FloatOps.maximumf (F := Ideal) (φ := .f32)) ![1, 1, 2000] ![1, 1, 1] ![0, 0, 1999] ![0, 0, 0] (Host.reverse [2] y)
    (broadcastInDim S_ ![] bcast_S_S_ (constant (F := Ideal) S_ FTy.f32 4286578688#32))
    reduceWindows_S3x10x2000_S3x10x2000_w1s1p0_0_w1s1p0_0_w2000s1p1999_0 h_S_)

/-- How many recalls lie below each threshold. -/
def below (y : FVec Ideal S3x10x2000 .f32) : IVec S3x10x101 32 :=
  Host.reduce IntOp.addi (extui 32 (cmpf .olt
      (broadcastInDim S3x10x101x2000 ![0, 1, 2, 3] bcast_S3x10x1x2000_S3x10x101x2000_0_1_2_3
        (broadcastInDim S3x10x1x2000 ![0, 1, 3] bcast_S3x10x2000_S3x10x1x2000_0_1_3
          (Host.divf y (broadcastInDim S3x10x2000 ![] bcast_S_S3x10x2000 (constant S_ FTy.f32 1140457472#32)))))
      (broadcastInDim S3x10x101x2000 ![0, 1, 2, 3] bcast_S1x1x101x1_S3x10x101x2000_0_1_2_3
        (broadcastInDim S1x1x101x1 ![1, 2, 3] bcast_S1x101x1_S1x1x101x1_1_2_3
          (broadcastInDim S1x101x1 ![1, 2] bcast_S101x1_S1x101x1_1_2 (broadcastInDim S101x1 ![0] bcast_S101_S101x1_0 R))))) natLt_1_32)
    (constantI S_ 32 0#32) reducesTo_S3x10x101x2000_S3x10x101_d3 h_S_

/-- A count as a place. -/
def clipped (K : IVec S3x10x101 32) : IVec S3x10x101 32 :=
  minsi (broadcastInDim S3x10x101 ![] bcast_S_S3x10x101 (id (constantI S_ 32 1999#32)))
    (maxsi (broadcastInDim S3x10x101 ![] bcast_S_S3x10x101 (id (constantI S_ 32 0#32))) K)

def places (K : IVec S3x10x101 32) : IVec S3x10x101x1 32 :=
  broadcastInDim S3x10x101x1 ![0, 1, 2] bcast_S3x10x101_S3x10x101x1_0_1_2
    (select (cmpi .slt (clipped K) (broadcastInDim S3x10x101 ![] bcast_S_S3x10x101 (constantI S_ 32 0#32)))
      (addi (clipped K) (broadcastInDim S3x10x101 ![] bcast_S_S3x10x101 (constantI S_ 32 2000#32))) (clipped K))

/-- The count as the comparison reads it. -/
def belowAt (y : FVec Ideal S3x10x2000 .f32) (a : Fin 3) (t : Fin 10) (r : Fin 101) : BitVec 32 :=
  Finset.univ.fold IntOp.addi 0#32 (fun l : Fin 2000 => BitVec.setWidth 32 (BitVec.ofBool (decide
    (LT.lt (α := EReal) (Ideal.div (y (ix3 a t l)) (Ideal.ofBits .f32 1140457472#32)) (R (ix1 r))))))

/-- One term of the mean. -/
def term (a : Fin 3) (t : Fin 10) (r : Fin 101) : EReal :=
  Scalar.select (IntOp.cmpi .slt (belowAt R (sums (hitsT T)) a t r) 2000#32)
    (Host.gather gather_S3x10x2000_S3x10x101x1_S3x10x101_n_2_01_01_2_3_111 (bests (precs T)) (places (below R (sums (hitsT T)))) (ix3 a t r))
    (Ideal.ofBits .f32 0#32)

/-- The reference's result. -/
theorem post_eq (W : Valuation τ sig (Elt Ideal)) (a : Fin 3) :
    ((afterL postI W (Proc.devRef .tc main_v121) : FVec Ideal S3 .f32) (ix1 a) : EReal)
      = Ideal.div (∑ t : Fin 10, ∑ r : Fin 101, term (W (Proc.devRef .tc main_v84_5)) (W (Proc.devRef .tc main_v5)) a t r)
          (Ideal.ofBits .f32 1149009920#32) := by
  simp only [afterL_cons, afterL_nil]
  after_reads_at
  rfl

/-! ## Their entries -/

theorem below_apply (y : FVec Ideal S3x10x2000 .f32) (a : Fin 3) (t : Fin 10) (r : Fin 101) :
    below R y (ix3 a t r) = belowAt R y a t r := by
  pointwise [below]
  rfl

theorem reverse_apply (y : FVec Ideal S3x10x2000 .f32) (a : Fin 3) (t : Fin 10) (k : Fin 2000) :
    (Host.reverse [2] y : FVec Ideal S3x10x2000 .f32) (ix3 a t k) = y (ix3 a t ⟨1999 - k.val, by omega⟩) := by
  refine congrArg y (funext fun b => ?_)
  match b with
  | ⟨0, _⟩ => rfl
  | ⟨1, _⟩ => rfl
  | ⟨2, _⟩ => refine Fin.ext ?_; show 2000 - (k.val + 1) = 1999 - k.val; omega

theorem sums_apply (y : FVec Ideal S3x10x2000 .f32) (f : ℕ → EReal) (a : Fin 3) (t : Fin 10)
    (hy : ∀ i : Fin 2000, (y (ix3 a t i) : EReal) = f i.val) (k : Fin 2000) :
    (sums y (ix3 a t k) : EReal) = (List.range (k.val + 1)).foldl (fun r i => r + f i) 0 :=
  Arrays.window_apply (α := EReal) (· + ·) y (fun _ : Shape.Idx ⟨0, ![]⟩ => Ideal.ofBits .f32 0#32) 0 1999 rfl
    reduceWindows_S3x10x2000_S3x10x2000_w1s1p0_0_w1s1p0_0_w2000s1p1999_0 (by decide) zero_lit (add_zero 0) f a t hy k

theorem bests_spec (y : FVec Ideal S3x10x2000 .f32) (f : ℕ → EReal) (a : Fin 3) (t : Fin 10)
    (hy : ∀ i : Fin 2000, (y (ix3 a t i) : EReal) = f i.val) (K : Fin 2000) :
    (∀ k, K.val ≤ k → k < 2000 → f k ≤ bests y (ix3 a t K)) ∧ ∃ k, K.val ≤ k ∧ k < 2000 ∧ (bests y (ix3 a t K) : EReal) = f k := by
  have hw : (bests y (ix3 a t K) : EReal) = (List.range (1999 - K.val + 1)).foldl (fun r i => max r (f (1999 - i))) ⊥ := by
    unfold bests
    rw [reverse_apply]
    exact Arrays.window_apply (α := EReal) max (Host.reverse [2] y) _ ⊥ 1999 rfl
      reduceWindows_S3x10x2000_S3x10x2000_w1s1p0_0_w1s1p0_0_w2000s1p1999_0 h_S_ neg_inf_eq (max_self _) (fun i => f (1999 - i)) a t
      (fun i => (reverse_apply y a t i).trans (hy _)) ⟨1999 - K.val, by omega⟩
  obtain ⟨h1, i, hi, h2⟩ := foldl_max (fun i => f (1999 - i)) (1999 - K.val)
  rw [hw]
  refine ⟨fun k hk hk' => ?_, 1999 - i, by omega, by omega, h2⟩
  have := h1 (1999 - k) (by omega)
  rwa [show 1999 - (1999 - k) = k by omega] at this

theorem clip_word : ∀ k : Fin 2000, IntOp.minsi 1999#32 (IntOp.maxsi 0#32 (BitVec.ofNat 32 k.val)) = BitVec.ofNat 32 k.val := by
  decide +kernel

theorem below_word : ∀ k : Fin 2001, IntOp.cmpi .slt (BitVec.ofNat 32 k.val) 2000#32 = BitVec.ofBool (decide (k.val < 2000)) := by
  decide +kernel

theorem places_apply (K : IVec S3x10x101 32) (a : Fin 3) (t : Fin 10) (r : Fin 101) (k : Fin 2000)
    (hk : K (ix3 a t r) = BitVec.ofNat 32 k.val) : places K (ix4 a t r 0) = BitVec.ofNat 32 k.val := by
  have hc : clipped K (ix3 a t r) = BitVec.ofNat 32 k.val := by
    refine Eq.trans ?_ (clip_word k)
    rw [← hk]
    rfl
  have h : places K (ix4 a t r 0) = Scalar.select (IntOp.cmpi .slt (clipped K (ix3 a t r)) 0#32)
      (IntOp.addi (clipped K (ix3 a t r)) 2000#32) (clipped K (ix3 a t r)) := by
    unfold places
    generalize clipped K = z
    pointwise
  rw [h, hc, wrap_eq]

/-! ## The mean -/

section Mean

variable {T R} {X : Fin 3 → ℕ → Fin 500 → EReal} {L : Fin 3 → ℕ → Fin 500 → Prop}
  (hT : ∀ (l : Fin 2000) (a : Fin 3) (t : Fin 10), (T (ix3 l a t) : EReal) = if hit (thr t.val) (X a) (L a) l.val then (1 : EReal) else 0)
  (hR : ∀ r : Fin 101, (R (ix1 r) : EReal) = recThr r.val)
include hT

theorem hitsT_apply (a : Fin 3) (t : Fin 10) (l : Fin 2000) :
    (hitsT T (ix3 a t l) : EReal) = if hit (thr t.val) (X a) (L a) l.val then (1 : EReal) else 0 := by
  refine Eq.trans ?_ (hT l a t)
  refine congrArg T (funext fun b => ?_)
  match b with
  | ⟨0, _⟩ => rfl
  | ⟨1, _⟩ => rfl
  | ⟨2, _⟩ => rfl

theorem hits_sum (a : Fin 3) (t : Fin 10) (k : Fin 2000) :
    (sums (hitsT T) (ix3 a t k) : EReal) = (((cnt (thr t.val) (X a) (L a) (k.val + 1) : ℕ) : ℝ) : EReal) := by
  rw [sums_apply _ (fun i => if hit (thr t.val) (X a) (L a) i then (1 : EReal) else 0) a t (hitsT_apply hT a t)]
  generalize k.val + 1 = n
  induction n with
  | zero => simp [cnt]
  | succ n ih =>
    rw [List.range_succ, List.foldl_append, ih, List.foldl_cons, List.foldl_nil, cnt]
    split
    · rw [Nat.cast_add, Nat.cast_one, EReal.coe_add, EReal.coe_one]
    · rw [add_zero, Nat.add_zero]

theorem miss_sum (a : Fin 3) (t : Fin 10) (k : Fin 2000) :
    (sums (missT T) (ix3 a t k) : EReal)
      = ((((k.val + 1 : ℕ) : ℝ) - ((cnt (thr t.val) (X a) (L a) (k.val + 1) : ℕ) : ℝ) : ℝ) : EReal) := by
  rw [sums_apply _ (fun i => if hit (thr t.val) (X a) (L a) i then (0 : EReal) else 1) a t (fun i => by
    have h : (missT T (ix3 a t i) : EReal) = Ideal.ofBits .f32 1065353216#32 - hitsT T (ix3 a t i) := rfl
    rw [h, hitsT_apply hT, one_eq]
    split
    · rw [← EReal.coe_one, ← EReal.coe_sub, sub_self, EReal.coe_zero]
    · rw [sub_zero])]
  generalize k.val + 1 = n
  induction n with
  | zero => simp [cnt]
  | succ n ih =>
    rw [List.range_succ, List.foldl_append, ih, List.foldl_cons, List.foldl_nil, cnt]
    split
    · rw [add_zero]
      congr 1
      push_cast
      ring
    · rw [← EReal.coe_one, ← EReal.coe_add, Nat.add_zero]
      congr 1
      push_cast
      ring

theorem precs_apply (a : Fin 3) (t : Fin 10) (k : Fin 2000) :
    (precs T (ix3 a t k) : EReal) = prec (thr t.val) (X a) (L a) k.val := by
  have h : (precs T (ix3 a t k) : EReal) = Ideal.div (sums (hitsT T) (ix3 a t k))
      (max ((sums (hitsT T) (ix3 a t k) : EReal) + sums (missT T) (ix3 a t k)) (Ideal.ofBits .f32 814313567#32)) := by
    unfold precs
    generalize sums (hitsT T) = y
    generalize sums (missT T) = z
    pointwise
  have h1 : (1 : ℝ) ≤ ((k.val + 1 : ℕ) : ℝ) := by exact_mod_cast Nat.le_add_left 1 k.val
  have hm : max (((k.val + 1 : ℕ) : ℝ) : EReal) (Ideal.ofBits .f32 814313567#32) = (((k.val + 1 : ℕ) : ℝ) : EReal) :=
    max_eq_left (tiny_lt.le.trans (EReal.coe_le_coe_iff.mpr h1))
  rw [h, hits_sum hT, miss_sum hT, ← EReal.coe_add, add_sub_cancel, hm,
    Ideal.div_coe (by positivity), ← EReal.coe_mul, prec, mul_one_div]

include hR

theorem count_eq (a : Fin 3) (t : Fin 10) (r : Fin 101) :
    belowAt R (sums (hitsT T)) a t r
      = BitVec.ofNat 32 (Finset.univ.filter fun l : Fin 2000 => recall (thr t.val) (X a) (L a) l.val < recThr r.val).card := by
  refine Eq.trans ?_ ((fold_count fun l : Fin 2000 => recall (thr t.val) (X a) (L a) l.val < recThr r.val).trans (by congr))
  unfold belowAt
  refine congrArg (fun f => Finset.univ.fold IntOp.addi 0#32 f) (funext fun l => ?_)
  have e : Ideal.div (sums (hitsT T) (ix3 a t l)) (Ideal.ofBits .f32 1140457472#32) = recall (thr t.val) (X a) (L a) l.val := by
    rw [hits_sum hT, five_hundred_eq, Ideal.div_coe (by norm_num), ← EReal.coe_mul, recall, mul_one_div]
  exact congrArg (BitVec.setWidth 32) (congrArg BitVec.ofBool (decide_eq_decide.mpr (by rw [e, hR])))

theorem term_eq (a : Fin 3) (t : Fin 10) (r : Fin 101) :
    term T R a t r = env (thr t.val) (X a) (L a) (recThr r.val) 2000 := by
  have hc := count_eq hT hR a t r
  obtain ⟨K, hK⟩ : ∃ K, K = (Finset.univ.filter fun l : Fin 2000 => recall (thr t.val) (X a) (L a) l.val < recThr r.val).card := ⟨_, rfl⟩
  rw [← hK] at hc
  have hle : K ≤ 2000 := by
    rw [hK]
    exact (Finset.card_filter_le _ _).trans (by rw [Finset.card_univ, Fintype.card_fin])
  have hiff : ∀ i < 2000, (K ≤ i ↔ recThr r.val ≤ recall (thr t.val) (X a) (L a) i) := fun i hi => by
    rw [hK]
    exact count_iff _ (recall_mono _ _ _) _ i hi
  have hw : IntOp.cmpi .slt (BitVec.ofNat 32 K) 2000#32 = BitVec.ofBool (decide (K < 2000)) := below_word ⟨K, by omega⟩
  have hb := bit_one (K < 2000)
  unfold term
  rw [hc, hw, select_one, zero_lit]
  by_cases hlt : K < 2000
  · have hg : Host.gather gather_S3x10x2000_S3x10x101x1_S3x10x101_n_2_01_01_2_3_111 (bests (precs T)) (places (below R (sums (hitsT T)))) (ix3 a t r)
        = bests (precs T) (ix3 a t ⟨K, hlt⟩) := by
      refine (Arrays.last_apply (by decide) _ (bests (precs T)) (places (below R (sums (hitsT T)))) a t r).trans
        (congrArg (fun p => bests (precs T) (ix3 a t p)) (Fin.ext ?_))
      show min (places (below R (sums (hitsT T))) (ix4 a t r 0)).toInt.toNat (2000 - 1) = K
      rw [places_apply _ a t r ⟨K, hlt⟩ ((below_apply R _ a t r).trans hc), toNat_eq]
    obtain ⟨h1, h2⟩ := bests_spec (precs T) (prec (thr t.val) (X a) (L a)) a t (precs_apply hT a t) ⟨K, hlt⟩
    rw [if_pos (hb.mpr hlt), hg, env_eq (thr t.val) (X a) (L a) (recThr r.val) 2000 K hiff (bests (precs T) (ix3 a t ⟨K, hlt⟩)) h1 (fun _ => h2), if_pos hlt]
  · rw [if_neg (fun e => hlt (hb.mp e)), env_eq (thr t.val) (X a) (L a) (recThr r.val) 2000 K hiff 0 (fun k hk hk' => absurd hk' (by omega))
      (fun h => absurd h hlt), if_neg hlt]

end Mean

variable (m : (ℓ : Loc nD τ sig) → Buf (Elt Ideal) ℓ) (c : Dev nD)

/-- The reference's final result. -/
theorem final_value (a : Fin 3) :
    ((finalContents condOps preI bodyI postI 2000 m c (Proc.devRef .tc main_v121) : FVec Ideal S3 .f32) (ix1 a) : EReal)
      = score (x0 m c) (x1 m c) (x2 m c) (x3 m c) (x4 m c) a := by
  have hT : after condOps (atK m 2000 c) (Proc.devRef .tc main_v84_5) = atK m 2000 c (Proc.devRef .tc main_v84_5) :=
    cond_keeps (atK m 2000 c) main_v84_5 (by decide)
  have hR : after condOps (atK m 2000 c) (Proc.devRef .tc main_v5) = entryContents preI m c (Proc.devRef .tc main_v5) :=
    (after_of_writes_sub condOps _ condOps_writes (by decide)).trans (atK_keeps m c main_v5 (by decide) 2000)
  have hh := hits_final m c
  have hr := rec_eq m c
  rw [final_eq, post_eq, hT, hR]
  generalize (atK m 2000 c (Proc.devRef .tc main_v84_5) : FVec Ideal S2000x3x10 .f32) = T at hh ⊢
  generalize (entryContents preI m c (Proc.devRef .tc main_v5) : FVec Ideal S101 .f32) = R at hr ⊢
  exact congrArg (fun x => Ideal.div x (Ideal.ofBits .f32 1149009920#32))
    (Finset.sum_congr rfl fun t _ => Finset.sum_congr rfl fun r _ =>
      term_eq (X := row (x0 m c) (x1 m c) (x3 m c)) (L := lab (x1 m c) (x2 m c) (x4 m c)) hh hr a t r)

end Cert.ReferenceIdeal.Kit

end
-- ==== Proof.Algebraic.lean ====
/- The kernel and the reference leave the same scores. -/
module

public import proofs.«01_k».proof.Defs
public import proofs.«01_k».proof.Proof.KernelIdeal.Final
public import proofs.«01_k».proof.Proof.RefPost

@[expose] public section

noncomputable section

namespace Cert.Proof

open Idealize.ShloMosaic Idealize.SL.Sem Cert.Model

/-- The reference's result, of its arguments' contents. -/
theorem reference_scores (m : (ℓ : Loc Cert.ReferenceIdeal.nD Cert.ReferenceIdeal.τ Cert.ReferenceIdeal.sig) → Buf (Elt Ideal) ℓ)
    (c : Dev Cert.ReferenceIdeal.nD) :
    (StableHlo.finalContents Cert.ReferenceIdeal.Value.condOps Cert.ReferenceIdeal.Value.preI Cert.ReferenceIdeal.Value.bodyI
        Cert.ReferenceIdeal.Value.postI 2000 m c (Proc.devRef .tc Cert.ReferenceIdeal.main_v121) : FVec Ideal Cert.ReferenceIdeal.S3 .f32)
      = fun i => score (Cert.ReferenceIdeal.Kit.x0 m c) (Cert.ReferenceIdeal.Kit.x1 m c) (Cert.ReferenceIdeal.Kit.x2 m c)
          (Cert.ReferenceIdeal.Kit.x3 m c) (Cert.ReferenceIdeal.Kit.x4 m c) (i 0) := by
  funext i
  have hi : i = ix1 (i 0) := funext fun b => match b with | ⟨0, _⟩ => rfl
  rw [hi]
  exact Cert.ReferenceIdeal.Kit.final_value m c (i 0)

theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => Cert.KernelIdeal.Kit.scores m c, Cert.KernelIdeal.Kit.value_run m g, ?_⟩
  refine (θ_run _ _ _).mono (fun r h c => ?_) (Cert.ReferenceIdeal.Value.run_fold m' g')
  refine ⟨((h c Cert.ReferenceIdeal.main_v121 rfl).trans (reference_scores m' c)).trans ?_,
    (h c Cert.ReferenceIdeal.main_arg0 rfl).trans (Cert.ReferenceIdeal.Kit.final_arg m' c _ (by simp)),
    (h c Cert.ReferenceIdeal.main_arg1 rfl).trans (Cert.ReferenceIdeal.Kit.final_arg m' c _ (by simp)),
    (h c Cert.ReferenceIdeal.main_arg2 rfl).trans (Cert.ReferenceIdeal.Kit.final_arg m' c _ (by simp)),
    (h c Cert.ReferenceIdeal.main_arg3 rfl).trans (Cert.ReferenceIdeal.Kit.final_arg m' c _ (by simp)),
    (h c Cert.ReferenceIdeal.main_arg4 rfl).trans (Cert.ReferenceIdeal.Kit.final_arg m' c _ (by simp))⟩
  obtain ⟨h0, h1, h2, h3, h4⟩ := hm c
  have e0 : Cert.ReferenceIdeal.Kit.x0 m' c = Cert.KernelIdeal.Kit.x0 m c := h0
  have e1 : Cert.ReferenceIdeal.Kit.x1 m' c = Cert.KernelIdeal.Kit.x1 m c := h1
  have e2 : Cert.ReferenceIdeal.Kit.x2 m' c = Cert.KernelIdeal.Kit.x2 m c := h2
  have e3 : Cert.ReferenceIdeal.Kit.x3 m' c = Cert.KernelIdeal.Kit.x3 m c := h3
  have e4 : Cert.ReferenceIdeal.Kit.x4 m' c = Cert.KernelIdeal.Kit.x4 m c := h4
  rw [e0, e1, e2, e3, e4]
  rfl

end Cert.Proof

end
-- ==== Proof.lean ====
/- The assembly of the claim: the frames of the kernel program at bit-level and at ideal values, the frame of the
   reference, the idealization, which rewrote nothing, and the equality of the two results. -/
module

public import proofs.«01_k».proof.Defs
public import proofs.«01_k».proof.Proof.Gen.ReferenceIdeal.Run
public import proofs.«01_k».proof.Proof.Kernel.Run
public import proofs.«01_k».proof.Proof.KernelIdeal.Run
public import proofs.«01_k».proof.Proof.RefFrame
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Kernel.Kit.frame_run m g,
    fun m g _ => Cert.KernelIdeal.Kit.frame_run m g,
    fun m g _ => Cert.ReferenceIdeal.Kit.frame_run m g,
    trivial, algebraic⟩

end Cert.Proof

end
